-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_c_0) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8x512 : Shape := ⟨3, ![8, 8, 512]⟩
abbrev S8x8x519x2048 : Shape := ⟨4, ![8, 8, 519, 2048]⟩
abbrev S8x520 : Shape := ⟨2, ![8, 520]⟩
abbrev S33216x2048 : Shape := ⟨2, ![33216, 2048]⟩
abbrev S32768x2048 : Shape := ⟨2, ![32768, 2048]⟩
abbrev S16x2048 : Shape := ⟨2, ![16, 2048]⟩
abbrev S_ : Shape := ⟨0, ![]⟩
abbrev S8x8x512x2048 : Shape := ⟨4, ![8, 8, 512, 2048]⟩
abbrev S8x8x520 : Shape := ⟨3, ![8, 8, 520]⟩
abbrev S8x1x512 : Shape := ⟨3, ![8, 1, 512]⟩
abbrev S8x512 : Shape := ⟨2, ![8, 512]⟩
abbrev S8x1 : Shape := ⟨2, ![8, 1]⟩
abbrev S8x7 : Shape := ⟨2, ![8, 7]⟩
abbrev S8x1x520 : Shape := ⟨3, ![8, 1, 520]⟩
abbrev S8x2 : Shape := ⟨2, ![8, 2]⟩
abbrev S8x6 : Shape := ⟨2, ![8, 6]⟩
abbrev S8x3 : Shape := ⟨2, ![8, 3]⟩
abbrev S8x5 : Shape := ⟨2, ![8, 5]⟩
abbrev S8x4 : Shape := ⟨2, ![8, 4]⟩
abbrev S8x8 : Shape := ⟨2, ![8, 8]⟩

abbrev nBuf : Table → Nat
  | .hbm => 9
  | .local .tc .vmem => 2
  | .local .scVector .vmem => 2
  | _ => 0

abbrev bufTy : (tb : Table) → Fin (nBuf tb) → BufTy
  | .hbm, ⟨0, _⟩ => ⟨S8x8x512, .i32⟩
  | .hbm, ⟨1, _⟩ => ⟨S8x8x519x2048, .f32⟩
  | .hbm, ⟨2, _⟩ => ⟨S8x520, .i1⟩
  | .hbm, ⟨3, _⟩ => ⟨S33216x2048, .f32⟩
  | .hbm, ⟨4, _⟩ => ⟨S32768x2048, .f32⟩
  | .hbm, ⟨5, _⟩ => ⟨S8x8x512x2048, .f32⟩
  | .hbm, ⟨6, _⟩ => ⟨S8x8x520, .i32⟩
  | .hbm, ⟨7, _⟩ => ⟨S_, .i1⟩
  | .hbm, ⟨8, _⟩ => ⟨S8x8x512, .i1⟩
  | .local .tc .vmem, ⟨0, _⟩ => ⟨S8x8x512, .i32⟩
  | .local .tc .vmem, ⟨1, _⟩ => ⟨S8x8x520, .i32⟩
  | .local .scVector .vmem, ⟨0, _⟩ => ⟨S16x2048, .f32⟩
  | .local .scVector .vmem, ⟨1, _⟩ => ⟨S16x2048, .f32⟩
  | _, _ => ⟨S8x8x512, .i32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32 : BitVec 32 := 0#32
  let c32_i32 : BitVec 32 := 32#32
  let v3 : BitVec 32 := Scalar.divsi c0_i32 c32_i32
  let v4 : BitVec 32 := Scalar.addi v2 v3
  let c519_i32 : BitVec 32 := 519#32
  let v6 : BitVec 32 := Scalar.muli v4 c519_i32
  let c8_i32 : BitVec 32 := 8#32
  let v5 : BitVec 32 := Scalar.remsi v4 c8_i32
  let v7 : BitVec 32 := Scalar.addi v6 v5
  let c0_i32_1 : BitVec 32 := 0#32
  let c32_i32_2 : BitVec 32 := 32#32
  let v8 : BitVec 32 := Scalar.remsi c0_i32_1 c32_i32_2
  let c16_i32 : BitVec 32 := 16#32
  let v9 : BitVec 32 := Scalar.muli v8 c16_i32
  let v10 : BitVec 32 := Scalar.addi v7 v9
  v10
def k0_off1 (i : grid0.Coords) (c0_i32 : BitVec 32) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c32_i32 : BitVec 32 := 32#32
  let v3 : BitVec 32 := Scalar.divsi c0_i32 c32_i32
  let v4 : BitVec 32 := Scalar.addi v2 v3
  let c519_i32 : BitVec 32 := 519#32
  let v6 : BitVec 32 := Scalar.muli v4 c519_i32
  let c8_i32 : BitVec 32 := 8#32
  let v5 : BitVec 32 := Scalar.remsi v4 c8_i32
  let v7 : BitVec 32 := Scalar.addi v6 v5
  let c32_i32_2 : BitVec 32 := 32#32
  let v8 : BitVec 32 := Scalar.remsi c0_i32_1 c32_i32_2
  let c16_i32 : BitVec 32 := 16#32
  let v9 : BitVec 32 := Scalar.muli v8 c16_i32
  let v10 : BitVec 32 := Scalar.addi v7 v9
  let v11 : BitVec 32 := v10
  let c0_i32_3 : BitVec 32 := 0#32
  ![v11.toNat, 0]
def k0_off1_at (r : Fin 2) : BitVec 32 × BitVec 32 :=
  if r.val < 1 then
    (0#32, 0#32)
  else
    (1#32, 1#32)
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let v14 : BitVec 32 := Scalar.muli v1 c2_i32_5
  let c1_i32 : BitVec 32 := 1#32
  let c32_i32_6 : BitVec 32 := 32#32
  let v15 : BitVec 32 := Scalar.divsi c1_i32 c32_i32_6
  let v16 : BitVec 32 := Scalar.addi v14 v15
  let c519_i32_8 : BitVec 32 := 519#32
  let v18 : BitVec 32 := Scalar.muli v16 c519_i32_8
  let c8_i32_7 : BitVec 32 := 8#32
  let v17 : BitVec 32 := Scalar.remsi v16 c8_i32_7
  let v19 : BitVec 32 := Scalar.addi v18 v17
  let c1_i32_9 : BitVec 32 := 1#32
  let c32_i32_10 : BitVec 32 := 32#32
  let v20 : BitVec 32 := Scalar.remsi c1_i32_9 c32_i32_10
  let c16_i32_11 : BitVec 32 := 16#32
  let v21 : BitVec 32 := Scalar.muli v20 c16_i32_11
  let v22 : BitVec 32 := Scalar.addi v19 v21
  v22
@[reducible] def k0_t1_loop : Scf.Loop 32 :=
  let c0_i32_15 : BitVec 32 := 0#32
  let c32_i32_16 : BitVec 32 := 32#32
  let v26 : BitVec 32 := Scalar.addi c0_i32_15 c32_i32_16
  let c1_i32_17 : BitVec 32 := 1#32
  ⟨c0_i32_15, v26, c1_i32_17⟩
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_25 : BitVec 32 := 2#32
  let v31 : BitVec 32 := Scalar.muli v1 c2_i32_25
  let c512_i32 : BitVec 32 := 512#32
  let v32 : BitVec 32 := Scalar.muli v31 c512_i32
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c0_i32_24 : BitVec 32 := 0#32
  let v30 : BitVec 32 := Scalar.addi v27 c0_i32_24
  let c16_i32_26 : BitVec 32 := 16#32
  let v33 : BitVec 32 := Scalar.muli v30 c16_i32_26
  let v34 : BitVec 32 := Scalar.addi v32 v33
  v34
def k0_off2 (i : grid0.Coords) (k0_t1 : Fin k0_t1_loop.trips) (c0_i32_24 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_25 : BitVec 32 := 2#32
  let v31 : BitVec 32 := Scalar.muli v1 c2_i32_25
  let c512_i32 : BitVec 32 := 512#32
  let v32 : BitVec 32 := Scalar.muli v31 c512_i32
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let v30 : BitVec 32 := Scalar.addi v27 c0_i32_24
  let c16_i32_26 : BitVec 32 := 16#32
  let v33 : BitVec 32 := Scalar.muli v30 c16_i32_26
  let v34 : BitVec 32 := Scalar.addi v32 v33
  let v35 : BitVec 32 := v34
  let c0_i32_27 : BitVec 32 := 0#32
  ![v35.toNat, 0]
def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_34 : BitVec 32 := 2#32
  let v41 : BitVec 32 := Scalar.muli v1 c2_i32_34
  let c512_i32_35 : BitVec 32 := 512#32
  let v42 : BitVec 32 := Scalar.muli v41 c512_i32_35
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c1_i32_33 : BitVec 32 := 1#32
  let v40 : BitVec 32 := Scalar.addi v27 c1_i32_33
  let c16_i32_36 : BitVec 32 := 16#32
  let v43 : BitVec 32 := Scalar.muli v40 c16_i32_36
  let v44 : BitVec 32 := Scalar.addi v42 v43
  v44
def k0_cond1 (k0_t1 : Fin k0_t1_loop.trips) : BitVec 1 :=
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_43 : BitVec 32 := 2#32
  let v50 : BitVec 32 := Scalar.addi v27 c2_i32_43
  let c0_i32_44 : BitVec 32 := 0#32
  let v51 : BitVec 32 := Scalar.addi v50 c0_i32_44
  let c64_i32 : BitVec 32 := 64#32
  let v52 : BitVec 1 := Scalar.cmpi .slt v51 c64_i32
  let v53 : BitVec 32 := Scalar.extui v52
  let c0_i32_45 : BitVec 32 := 0#32
  let v54 : BitVec 1 := Scalar.cmpi .ne v53 c0_i32_45
  v54

def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_56 : BitVec 32 := 2#32
  let v64 : BitVec 32 := Scalar.muli v1 c2_i32_56
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_54 : BitVec 32 := 2#32
  let v62 : BitVec 32 := Scalar.addi v27 c2_i32_54
  let c0_i32_55 : BitVec 32 := 0#32
  let v63 : BitVec 32 := Scalar.addi v62 c0_i32_55
  let c32_i32_57 : BitVec 32 := 32#32
  let v65 : BitVec 32 := Scalar.divsi v63 c32_i32_57
  let v66 : BitVec 32 := Scalar.addi v64 v65
  let c519_i32_59 : BitVec 32 := 519#32
  let v68 : BitVec 32 := Scalar.muli v66 c519_i32_59
  let c8_i32_58 : BitVec 32 := 8#32
  let v67 : BitVec 32 := Scalar.remsi v66 c8_i32_58
  let v69 : BitVec 32 := Scalar.addi v68 v67
  let c32_i32_60 : BitVec 32 := 32#32
  let v70 : BitVec 32 := Scalar.remsi v63 c32_i32_60
  let c16_i32_61 : BitVec 32 := 16#32
  let v71 : BitVec 32 := Scalar.muli v70 c16_i32_61
  let v72 : BitVec 32 := Scalar.addi v69 v71
  v72
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_56 : BitVec 32 := 2#32
  let v64 : BitVec 32 := Scalar.muli v1 c2_i32_56
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_54 : BitVec 32 := 2#32
  let v62 : BitVec 32 := Scalar.addi v27 c2_i32_54
  let c0_i32_55 : BitVec 32 := 0#32
  let v63 : BitVec 32 := Scalar.addi v62 c0_i32_55
  let c32_i32_57 : BitVec 32 := 32#32
  let v65 : BitVec 32 := Scalar.divsi v63 c32_i32_57
  let v66 : BitVec 32 := Scalar.addi v64 v65
  let c519_i32_59 : BitVec 32 := 519#32
  let v68 : BitVec 32 := Scalar.muli v66 c519_i32_59
  let c8_i32_58 : BitVec 32 := 8#32
  let v67 : BitVec 32 := Scalar.remsi v66 c8_i32_58
  let v69 : BitVec 32 := Scalar.addi v68 v67
  let c32_i32_60 : BitVec 32 := 32#32
  let v70 : BitVec 32 := Scalar.remsi v63 c32_i32_60
  let c16_i32_61 : BitVec 32 := 16#32
  let v71 : BitVec 32 := Scalar.muli v70 c16_i32_61
  let v72 : BitVec 32 := Scalar.addi v69 v71
  let v73 : BitVec 32 := v72
  let c0_i32_62 : BitVec 32 := 0#32
  ![v73.toNat, 0]
def k0_cond2 (k0_t1 : Fin k0_t1_loop.trips) : BitVec 1 :=
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_50 : BitVec 32 := 2#32
  let v57 : BitVec 32 := Scalar.addi v27 c2_i32_50
  let c1_i32_51 : BitVec 32 := 1#32
  let v58 : BitVec 32 := Scalar.addi v57 c1_i32_51
  let c64_i32_52 : BitVec 32 := 64#32
  let v59 : BitVec 1 := Scalar.cmpi .slt v58 c64_i32_52
  let v60 : BitVec 32 := Scalar.extui v59
  let c0_i32_53 : BitVec 32 := 0#32
  let v61 : BitVec 1 := Scalar.cmpi .ne v60 c0_i32_53
  v61

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_56 : BitVec 32 := 2#32
  let v64 : BitVec 32 := Scalar.muli v1 c2_i32_56
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_54 : BitVec 32 := 2#32
  let v62 : BitVec 32 := Scalar.addi v27 c2_i32_54
  let c1_i32_55 : BitVec 32 := 1#32
  let v63 : BitVec 32 := Scalar.addi v62 c1_i32_55
  let c32_i32_57 : BitVec 32 := 32#32
  let v65 : BitVec 32 := Scalar.divsi v63 c32_i32_57
  let v66 : BitVec 32 := Scalar.addi v64 v65
  let c519_i32_59 : BitVec 32 := 519#32
  let v68 : BitVec 32 := Scalar.muli v66 c519_i32_59
  let c8_i32_58 : BitVec 32 := 8#32
  let v67 : BitVec 32 := Scalar.remsi v66 c8_i32_58
  let v69 : BitVec 32 := Scalar.addi v68 v67
  let c32_i32_60 : BitVec 32 := 32#32
  let v70 : BitVec 32 := Scalar.remsi v63 c32_i32_60
  let c16_i32_61 : BitVec 32 := 16#32
  let v71 : BitVec 32 := Scalar.muli v70 c16_i32_61
  let v72 : BitVec 32 := Scalar.addi v69 v71
  v72
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_56 : BitVec 32 := 2#32
  let v64 : BitVec 32 := Scalar.muli v1 c2_i32_56
  let c0_i32_15 : BitVec 32 := 0#32
  let c1_i32_17 : BitVec 32 := 1#32
  let arg10 : BitVec 32 := Scf.iv c0_i32_15 c1_i32_17 k0_t1
  let c2_i32_19 : BitVec 32 := 2#32
  let v27 : BitVec 32 := Scalar.muli arg10 c2_i32_19
  let c2_i32_54 : BitVec 32 := 2#32
  let v62 : BitVec 32 := Scalar.addi v27 c2_i32_54
  let c1_i32_55 : BitVec 32 := 1#32
  let v63 : BitVec 32 := Scalar.addi v62 c1_i32_55
  let c32_i32_57 : BitVec 32 := 32#32
  let v65 : BitVec 32 := Scalar.divsi v63 c32_i32_57
  let v66 : BitVec 32 := Scalar.addi v64 v65
  let c519_i32_59 : BitVec 32 := 519#32
  let v68 : BitVec 32 := Scalar.muli v66 c519_i32_59
  let c8_i32_58 : BitVec 32 := 8#32
  let v67 : BitVec 32 := Scalar.remsi v66 c8_i32_58
  let v69 : BitVec 32 := Scalar.addi v68 v67
  let c32_i32_60 : BitVec 32 := 32#32
  let v70 : BitVec 32 := Scalar.remsi v63 c32_i32_60
  let c16_i32_61 : BitVec 32 := 16#32
  let v71 : BitVec 32 := Scalar.muli v70 c16_i32_61
  let v72 : BitVec 32 := Scalar.addi v69 v71
  let v73 : BitVec 32 := v72
  let c0_i32_62 : BitVec 32 := 0#32
  ![v73.toNat, 0]
abbrev grid1 : Pipeline.Grid := .none

abbrev stage1_0 : Fin 1 → Memref sig .tc .vmem S8x8x512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x8x520 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8x512 : Shape := ⟨3, ![8, 8, 512]⟩
abbrev S8x8x519x2048 : Shape := ⟨4, ![8, 8, 519, 2048]⟩
abbrev S4160 : Shape := ⟨1, ![4160]⟩
abbrev S8x520 : Shape := ⟨2, ![8, 520]⟩
abbrev S4096 : Shape := ⟨1, ![4096]⟩
abbrev S8x512 : Shape := ⟨2, ![8, 512]⟩
abbrev S8x4096 : Shape := ⟨2, ![8, 4096]⟩
abbrev S_ : Shape := ⟨0, ![]⟩
abbrev S8x1 : Shape := ⟨2, ![8, 1]⟩
abbrev S8x4097 : Shape := ⟨2, ![8, 4097]⟩
abbrev S4160x1 : Shape := ⟨2, ![4160, 1]⟩
abbrev S1 : Shape := ⟨1, ![1]⟩
abbrev S1x1 : Shape := ⟨2, ![1, 1]⟩
abbrev S8x4160 : Shape := ⟨2, ![8, 4160]⟩
abbrev S8x8x520 : Shape := ⟨3, ![8, 8, 520]⟩
abbrev S8x2048x8x519 : Shape := ⟨4, ![8, 2048, 8, 519]⟩
abbrev S8x2048x4152 : Shape := ⟨3, ![8, 2048, 4152]⟩
abbrev S8x2048x1 : Shape := ⟨3, ![8, 2048, 1]⟩
abbrev S8x2048x4153 : Shape := ⟨3, ![8, 2048, 4153]⟩
abbrev S4096x1 : Shape := ⟨2, ![4096, 1]⟩
abbrev S8x2048x4096 : Shape := ⟨3, ![8, 2048, 4096]⟩
abbrev S8x2048x8x512 : Shape := ⟨4, ![8, 2048, 8, 512]⟩
abbrev S8x8x512x2048 : Shape := ⟨4, ![8, 8, 512, 2048]⟩
abbrev S1x8x512 : Shape := ⟨3, ![1, 8, 512]⟩

abbrev nBuf : Space → Nat
  | .hbm => 66
  | .vmem => 0
  | .smem => 0
  | _ => 0

abbrev bufTy : (tb : Table) → Fin (tcTables nBuf tb) → BufTy
  | .hbm, ⟨0, _⟩ => ⟨S8x8x512, .i32⟩
  | .hbm, ⟨1, _⟩ => ⟨S8x8x519x2048, .f32⟩
  | .hbm, ⟨2, _⟩ => ⟨S4160, .i32⟩
  | .hbm, ⟨3, _⟩ => ⟨S8x520, .i1⟩
  | .hbm, ⟨4, _⟩ => ⟨S4096, .i32⟩
  | .hbm, ⟨5, _⟩ => ⟨S8x512, .i1⟩
  | .hbm, ⟨6, _⟩ => ⟨S8x4096, .i32⟩
  | .hbm, ⟨7, _⟩ => ⟨S_, .i32⟩
  | .hbm, ⟨8, _⟩ => ⟨S8x1, .i32⟩
  | .hbm, ⟨9, _⟩ => ⟨S8x4097, .i32⟩
  | .hbm, ⟨10, _⟩ => ⟨S_, .i32⟩
  | .hbm, ⟨11, _⟩ => ⟨S4160, .i32⟩
  | .hbm, ⟨12, _⟩ => ⟨S4160, .i1⟩
  | .hbm, ⟨13, _⟩ => ⟨S_, .i32⟩
  | .hbm, ⟨14, _⟩ => ⟨S4160, .i32⟩
  | .hbm, ⟨15, _⟩ => ⟨S4160, .i32⟩
  | .hbm, ⟨16, _⟩ => ⟨S4160, .i32⟩
  | .hbm, ⟨17, _⟩ => ⟨S4160x1, .i32⟩
  | .hbm, ⟨18, _⟩ => ⟨S1, .i32⟩
  | .hbm, ⟨19, _⟩ => ⟨S_, .i32⟩
  | .hbm, ⟨20, _⟩ => ⟨S4160x1, .i32⟩
  | .hbm, ⟨21, _⟩ => ⟨S4160x1, .i1⟩
  | .hbm, ⟨22, _⟩ => ⟨S1x1, .i32⟩
  | .hbm, ⟨23, _⟩ => ⟨S4160x1, .i32⟩
  | .hbm, ⟨24, _⟩ => ⟨S4160x1, .i1⟩
  | .hbm, ⟨25, _⟩ => ⟨S4160x1, .i1⟩
  | .hbm, ⟨26, _⟩ => ⟨S_, .i1⟩
  | .hbm, ⟨27, _⟩ => ⟨S4160, .i1⟩
  | .hbm, ⟨28, _⟩ => ⟨S8x4160, .i32⟩
  | .hbm, ⟨29, _⟩ => ⟨S8x4160, .i1⟩
  | .hbm, ⟨30, _⟩ => ⟨S_, .i32⟩
  | .hbm, ⟨31, _⟩ => ⟨S8x4160, .i32⟩
  | .hbm, ⟨32, _⟩ => ⟨S8x4160, .i32⟩
  | .hbm, ⟨33, _⟩ => ⟨S8x8x520, .i32⟩
  | .hbm, ⟨34, _⟩ => ⟨S8x2048x8x519, .f32⟩
  | .hbm, ⟨35, _⟩ => ⟨S8x2048x4152, .f32⟩
  | .hbm, ⟨36, _⟩ => ⟨S_, .f32⟩
  | .hbm, ⟨37, _⟩ => ⟨S8x2048x1, .f32⟩
  | .hbm, ⟨38, _⟩ => ⟨S8x2048x4153, .f32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S1, .i32⟩
  | .hbm, ⟨48, _⟩ => ⟨S_, .i32⟩
  | .hbm, ⟨49, _⟩ => ⟨S4096x1, .i32⟩
  | .hbm, ⟨50, _⟩ => ⟨S4096x1, .i1⟩
  | .hbm, ⟨51, _⟩ => ⟨S1x1, .i32⟩
  | .hbm, ⟨52, _⟩ => ⟨S4096x1, .i32⟩
  | .hbm, ⟨53, _⟩ => ⟨S4096x1, .i1⟩
  | .hbm, ⟨54, _⟩ => ⟨S4096x1, .i1⟩
  | .hbm, ⟨55, _⟩ => ⟨S_, .i1⟩
  | .hbm, ⟨56, _⟩ => ⟨S4096, .i1⟩
  | .hbm, ⟨57, _⟩ => ⟨S8x2048x4096, .f32⟩
  | .hbm, ⟨58, _⟩ => ⟨S8x2048x4096, .i1⟩
  | .hbm, ⟨59, _⟩ => ⟨S_, .f32⟩
  | .hbm, ⟨60, _⟩ => ⟨S8x2048x4096, .f32⟩
  | .hbm, ⟨61, _⟩ => ⟨S8x2048x4096, .f32⟩
  | .hbm, ⟨62, _⟩ => ⟨S8x2048x8x512, .f32⟩
  | .hbm, ⟨63, _⟩ => ⟨S8x8x512x2048, .f32⟩
  | .hbm, ⟨64, _⟩ => ⟨S1x8x512, .i1⟩
  | .hbm, ⟨65, _⟩ => ⟨S8x8x512, .i1⟩
  | _, _ => ⟨S8x8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_4 : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst : Ref sig .tc := ⟨.hbm, 36, rfl⟩
abbrev main_v7 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩

abbrev nD : Nat := 1
abbrev τ : Topo := Topo.v7x

variable {F : FTy → Type} [FloatOps F]
-- ==== Proof.Setup.lean ====
/-
  What every module of the kernel's run shares: the program as the SparseCore launch theorem sees it, the resource
  algebra, the arrays' locations, which row of the logits each row of the result is, and how the result's rows are dealt
  to the two SparseCores and their sixteen tiles.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Defs
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program: the kernels' two, and the one pipeline's. -/
abbrev ΛP : Labels := Pipeline.Sig Λ₀ (Fin 1) fun p => (pcfgs (F := F) p).Adm
/-- The SparseCore configuration. -/
abbrev K : SparseCore.Cfg τ sig (ΛP (F := F)) 1 := sc (F := F)
/-- What the labels mean below the SparseCore calls. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The layout facts of the launch: which semaphores of the handshakes are scoped, that they differ, that no buffer of a
    SparseCore is shared with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := UH × UP × Counters

/-- Where the handshakes' rounds live. -/
abbrev EH : Emb UH (MT nD τ sig (HIx 1) (Elt F) ℕ UU ℕ) := embL

/-! ## Locations -/

/-- The flattened logits (33216 rows of 2048 numbers) and the flattened result (32768 rows) on device `d`. -/
abbrev lgLoc (d : Dev nD) : Loc nD τ sig := (SparseCore.T d).loc main_v0
abbrev outLoc (d : Dev nD) : Loc nD τ sig := (SparseCore.T d).loc main_v1

/-- The operands a tile's body takes: the two arrays and the tile's two buffers, each whole. -/
abbrev lgV : Memref sig .scVector .hbm S33216x2048 .f32 := Memref.whole main_v0_scv
abbrev outV : Memref sig .scVector .hbm S32768x2048 .f32 := Memref.whole main_v1_scv
abbrev b0V : Memref sig .scVector .vmem S16x2048 .f32 := Memref.whole cc0_scratch0
abbrev b1V : Memref sig .scVector .vmem S16x2048 .f32 := Memref.whole cc0_scratch1

/-! ## Which row of the logits each row of the result is -/

/-- Row `R = (b*8 + q)*512 + t` of the result is row `(b*8 + q)*519 + q + t` of the logits: block `R / 512`, shifted by
    that block's codebook number `(R / 512) % 8`. -/
def srcRow (R : ℕ) : ℕ := R / 512 * 519 + R / 512 % 8 + R % 512

theorem srcRow_lt {R : ℕ} (h : R < 32768) : srcRow R < 33216 := by unfold srcRow; omega

/-- Where in the logits the result's element `x` comes from: the same column of row `srcRow (x 0)`. -/
def srcIdx (x : S32768x2048.Idx) : S33216x2048.Idx := fun a =>
  match a with
  | 0 => ⟨srcRow (x 0).val, srcRow_lt (x 0).isLt⟩
  | 1 => ⟨(x 1).val, (x 1).isLt⟩

/-- The result the copy leaves, from the logits `A`. -/
def gath (A : S33216x2048.Idx → Elt F .f32) : S32768x2048.Idx → Elt F .f32 := fun x => A (srcIdx x)

/-! ## The rows each tile writes -/

/-- The rows of task `w`: the `1024` from `1024 * w`. -/
def taskSet (w : ℕ) : Finset S32768x2048.Idx := Finset.univ.filter fun x => (x 0).val / 1024 = w

theorem mem_taskSet {w : ℕ} {x : S32768x2048.Idx} : x ∈ taskSet w ↔ (x 0).val / 1024 = w := by simp [taskSet]

/-- The rows of tile `s` of SparseCore `c`: those of task `2 s + c`. -/
abbrev tileSet (c : Fin 2) (s : Fin 16) : Finset S32768x2048.Idx := taskSet (2 * s.val + c.val)

/-- The rows of SparseCore `c`: every second block of `1024`. -/
def coreSet (c : Fin 2) : Finset S32768x2048.Idx :=
  Finset.univ.filter fun x => (x 0).val / 1024 % 2 = c.val

theorem mem_coreSet {c : Fin 2} {x : S32768x2048.Idx} : x ∈ coreSet c ↔ (x 0).val / 1024 % 2 = c.val := by
  simp [coreSet]

theorem row_lt (x : S32768x2048.Idx) : (x 0).val < 32768 := (x 0).isLt

theorem tiles_disjoint (c : Fin 2) : ∀ s ∈ (Finset.univ : Finset (Fin 16)), ∀ s' ∈ (Finset.univ : Finset (Fin 16)), s ≠ s' →
    Disjoint (tileSet c s) (tileSet c s') := by
  intro s _ s' _ h
  rw [Finset.disjoint_left]
  intro x hx hx'
  rw [mem_taskSet] at hx hx'
  exact h (Fin.ext (by omega))

theorem tiles_cover (c : Fin 2) : (Finset.univ : Finset (Fin 16)).biUnion (tileSet c) = coreSet c := by
  ext x
  have := row_lt x
  have := c.isLt
  simp only [Finset.mem_biUnion, Finset.mem_univ, true_and, mem_taskSet, mem_coreSet]
  constructor
  · rintro ⟨s, hs⟩; omega
  · intro h; exact ⟨⟨(x 0).val / 1024 / 2, by omega⟩, by show _ = 2 * ((x 0).val / 1024 / 2) + c.val; omega⟩

theorem cores_disjoint : ∀ c ∈ (Finset.univ : Finset (Fin 2)), ∀ c' ∈ (Finset.univ : Finset (Fin 2)), c ≠ c' →
    Disjoint (coreSet c) (coreSet c') := by
  intro c _ c' _ h
  rw [Finset.disjoint_left]
  intro x hx hx'
  rw [mem_coreSet] at hx hx'
  exact h (Fin.ext (by omega))

theorem cores_cover : (Finset.univ : Finset (Fin 2)).biUnion coreSet = Finset.univ := by
  ext x
  simp only [Finset.mem_biUnion, Finset.mem_univ, true_and, mem_coreSet, iff_true]
  exact ⟨⟨(x 0).val / 1024 % 2, by omega⟩, rfl⟩

end Cert.Proof.Run

end
-- ==== Proof.Host.lean ====
/-
  The steps of @main between the kernels: an operation that writes one array, and one that reads one array and writes another.
-/
module

public import proofs.«01_k».proof.Proof.Setup

@[expose] public section

noncomputable section

namespace Cert.Proof.Run

open Cert.KernelIdeal Cert.KernelIdeal.Gen

open Idealize.ShloMosaic
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- An operation over the one array `y`, which leaves `G` there, runs from any contents of it. -/
theorem wp_one (d : Dev nD) (op : HloOp τ sig (Elt F)) (y : Ref sig .tc)
    (hb : op.bufs = {Proc.devRef .tc y}) (hf : op.fresh = ∅) (V₀ : Valuation τ sig (Elt F))
    (B G : Buf (Elt F) ((SparseCore.T d : Thread nD τ).loc y)) (hG : ∀ V, op.result V (Proc.devRef .tc y) = G) (Q : PUnit → sProp 𝕄) :
    iprop(boundary (SparseCore.T d) ∗ ((SparseCore.T d).loc y ↦{fullShare} B))
      ⊢ iprop(((boundary (SparseCore.T d) ∗ ((SparseCore.T d).loc y ↦{fullShare} G)) -∗ Q ⟨⟩)
        -∗ wp frame (wpE ((K (F := F)).defs (D (F := F))) 𝒱 (SparseCore.T d) none) Set.univ (hlo rfl op fun _ => .ret ⟨⟩) Q) := by
  have hheld : ∀ V : Valuation τ sig (Elt F), (held (SparseCore.T d) {Proc.devRef .tc y} V : sProp 𝕄)
      = ((SparseCore.T d).loc y ↦{fullShare} V (Proc.devRef .tc y)) := fun V => by
    unfold held; rw [bigSep_singleton]
  iintro ⟨Hb, Hy⟩ Hk
  iapply (wp_hlo_within 𝒱 (SparseCore.T d) none Set.univ (op := op) (S := {Proc.devRef .tc y}) (hb ▸ subset_rfl)
    (V := Function.update V₀ (Proc.devRef .tc y) B) (hf := hf)) $$ [Hb Hy]
  · isplitl [Hb]; · iexact Hb
    rw [hheld, Function.update_self]
    iexact Hy
  rw [hheld, hG]
  iintro H
  rw [wp_ret]
  imodintro
  iapply Hk
  iexact H

/-- An operation that reads the array `x`, at `A`, and leaves `G` in the array `y`, runs from any contents of `y`. -/
theorem wp_two (d : Dev nD) (op : HloOp τ sig (Elt F)) (x y : Ref sig .tc)
    (hxy : (Proc.devRef .tc x : DevRef τ sig) ≠ Proc.devRef .tc y)
    (hb : op.bufs = {Proc.devRef .tc x, Proc.devRef .tc y}) (hw : op.writes = {Proc.devRef .tc y}) (hf : op.fresh = ∅)
    (V₀ : Valuation τ sig (Elt F)) (A : Buf (Elt F) ((SparseCore.T d : Thread nD τ).loc x))
    (B G : Buf (Elt F) ((SparseCore.T d : Thread nD τ).loc y))
    (hG : ∀ V, V (Proc.devRef .tc x) = A → op.result V (Proc.devRef .tc y) = G) (Q : PUnit → sProp 𝕄) :
    iprop(boundary (SparseCore.T d) ∗ ((SparseCore.T d).loc x ↦{fullShare} A) ∗ ((SparseCore.T d).loc y ↦{fullShare} B))
      ⊢ iprop(((boundary (SparseCore.T d) ∗ ((SparseCore.T d).loc x ↦{fullShare} A) ∗ ((SparseCore.T d).loc y ↦{fullShare} G)) -∗ Q ⟨⟩)
        -∗ wp frame (wpE ((K (F := F)).defs (D (F := F))) 𝒱 (SparseCore.T d) none) Set.univ (hlo rfl op fun _ => .ret ⟨⟩) Q) := by
  have hheld : ∀ V : Valuation τ sig (Elt F), (held (SparseCore.T d) {Proc.devRef .tc x, Proc.devRef .tc y} V : sProp 𝕄)
      = iprop(((SparseCore.T d).loc x ↦{fullShare} V (Proc.devRef .tc x)) ∗ ((SparseCore.T d).loc y ↦{fullShare} V (Proc.devRef .tc y))) := fun V => by
    unfold held
    rw [SparseCore.bigSep_insert' (by rw [Finset.mem_singleton]; exact hxy), bigSep_singleton]
  have hx : (Function.update (Function.update V₀ (Proc.devRef .tc x) A) (Proc.devRef .tc y) B) (Proc.devRef .tc x) = A := by
    rw [Function.update_of_ne hxy, Function.update_self]
  iintro ⟨Hb, Hx, Hy⟩ Hk
  iapply (wp_hlo_within 𝒱 (SparseCore.T d) none Set.univ (op := op) (S := {Proc.devRef .tc x, Proc.devRef .tc y}) (hb ▸ subset_rfl)
    (V := Function.update (Function.update V₀ (Proc.devRef .tc x) A) (Proc.devRef .tc y) B) (hf := hf)) $$ [Hb Hx Hy]
  · isplitl [Hb]; · iexact Hb
    rw [hheld, hx, Function.update_self]
    isplitl [Hx]
    · iexact Hx
    · iexact Hy
  rw [hheld, hG _ hx, op.result_of_not_mem _ (by rw [hw, Finset.mem_singleton]; exact hxy), hx]
  iintro H
  rw [wp_ret]
  imodintro
  iapply Hk
  iexact H

end Cert.Proof.Run

end
-- ==== Proof.Rows.lean ====
/-
  The delayed prompt: what the TensorCore kernel stores into the second result, row by row. Each of the eight codebooks is
  one row of the block, the prompt's row laid behind as many fillers as the codebook's number and one.
-/
module

public import Idealize.ShloMosaic.Lib.Pointwise
public import Idealize.ShloMosaic.Lib.ValueIdx
public import proofs.«01_k».proof.Proof.Setup

@[expose] public section

noncomputable section

namespace Cert.Proof.Run

open Cert.KernelIdeal Cert.KernelIdeal.Gen
open Idealize.ShloMosaic

variable {F : FTy → Type} [FloatOps F]

/-- The delayed prompt: at codebook `q` and place `s` of the sequence the prompt's word `s - 1 - q`, where there is one,
    and the filler `2048` elsewhere. -/
def valuesOf (X : S8x8x512.Idx → BitVec 32) (y : S8x8x520.Idx) : BitVec 32 :=
  if h : (y 1).val + 1 ≤ (y 2).val ∧ (y 2).val < (y 1).val + 513 then
    X (ix3 (y 0) (y 1) ⟨(y 2).val - (y 1).val - 1, by omega⟩)
  else 2048#32

/-- Two places of the prompt's row with the same codebook and the same number hold the same word. -/
theorem word_congr (X : S8x8x512.Idx → BitVec 32) (b : Fin 8) (q : Fin 8) {i j : Fin 512} (h : i.val = j.val) :
    X (ix3 b q i) = X (ix3 b q j) := by
  rw [Fin.ext h]

/-! ## The stored rows

What is stored at each codebook, for `v` the row of the prompt loaded there, is the delayed prompt's row. -/

theorem row0 (X : S8x8x512.Idx → BitVec 32) (v : S8x1x512.Idx → BitVec 32)
    (hv : ∀ i, v i = X (ix3 (i 0) (0 : Fin 8) (i 2))) (x : S8x1x520.Idx) :
    k1_pay2 (F := F) v x = valuesOf X (ix3 (x 0) (0 : Fin 8) (x 2)) := by
  have hx : (x 2).val < 520 := (x 2).isLt
  unfold k1_pay2 valuesOf
  pointwise
  simp only [hv]
  repeat' split
  all_goals first | rfl | (exfalso; omega) | refine word_congr X _ _ ?_; show (_ : ℕ) - _ = _; omega

theorem row1 (X : S8x8x512.Idx → BitVec 32) (v : S8x1x512.Idx → BitVec 32)
    (hv : ∀ i, v i = X (ix3 (i 0) (1 : Fin 8) (i 2))) (x : S8x1x520.Idx) :
    k1_pay3 (F := F) v x = valuesOf X (ix3 (x 0) (1 : Fin 8) (x 2)) := by
  have hx : (x 2).val < 520 := (x 2).isLt
  unfold k1_pay3 valuesOf
  pointwise
  simp only [hv]
  repeat' split
  all_goals first | rfl | (exfalso; omega) | refine word_congr X _ _ ?_; show (_ : ℕ) - _ = _; omega

theorem row2 (X : S8x8x512.Idx → BitVec 32) (v : S8x1x512.Idx → BitVec 32)
    (hv : ∀ i, v i = X (ix3 (i 0) (2 : Fin 8) (i 2))) (x : S8x1x520.Idx) :
    k1_pay4 (F := F) v x = valuesOf X (ix3 (x 0) (2 : Fin 8) (x 2)) := by
  have hx : (x 2).val < 520 := (x 2).isLt
  unfold k1_pay4 valuesOf
  pointwise
  simp only [hv]
  repeat' split
  all_goals first | rfl | (exfalso; omega) | refine word_congr X _ _ ?_; show (_ : ℕ) - _ = _; omega

theorem row3 (X : S8x8x512.Idx → BitVec 32) (v : S8x1x512.Idx → BitVec 32)
    (hv : ∀ i, v i = X (ix3 (i 0) (3 : Fin 8) (i 2))) (x : S8x1x520.Idx) :
    k1_pay8 (k1_pay5 (F := F) v) k1_pay6 k1_pay7 x = valuesOf X (ix3 (x 0) (3 : Fin 8) (x 2)) := by
  have hx : (x 2).val < 520 := (x 2).isLt
  unfold k1_pay8 k1_pay7 k1_pay6 k1_pay5 valuesOf
  pointwise
  simp only [hv]
  repeat' split
  all_goals first | rfl | (exfalso; omega) | refine word_congr X _ _ ?_; show (_ : ℕ) - _ = _; omega

theorem row4 (X : S8x8x512.Idx → BitVec 32) (v : S8x1x512.Idx → BitVec 32)
    (hv : ∀ i, v i = X (ix3 (i 0) (4 : Fin 8) (i 2))) (x : S8x1x520.Idx) :
    k1_pay9 (F := F) v x = valuesOf X (ix3 (x 0) (4 : Fin 8) (x 2)) := by
  have hx : (x 2).val < 520 := (x 2).isLt
  unfold k1_pay9 valuesOf
  pointwise
  simp only [hv]
  repeat' split
  all_goals first | rfl | (exfalso; omega) | refine word_congr X _ _ ?_; show (_ : ℕ) - _ = _; omega

theorem row5 (X : S8x8x512.Idx → BitVec 32) (v : S8x1x512.Idx → BitVec 32)
    (hv : ∀ i, v i = X (ix3 (i 0) (5 : Fin 8) (i 2))) (x : S8x1x520.Idx) :
    k1_pay10 (F := F) v x = valuesOf X (ix3 (x 0) (5 : Fin 8) (x 2)) := by
  have hx : (x 2).val < 520 := (x 2).isLt
  unfold k1_pay10 valuesOf
  pointwise
  simp only [hv]
  repeat' split
  all_goals first | rfl | (exfalso; omega) | refine word_congr X _ _ ?_; show (_ : ℕ) - _ = _; omega

theorem row6 (X : S8x8x512.Idx → BitVec 32) (v : S8x1x512.Idx → BitVec 32)
    (hv : ∀ i, v i = X (ix3 (i 0) (6 : Fin 8) (i 2))) (x : S8x1x520.Idx) :
    k1_pay11 (F := F) v x = valuesOf X (ix3 (x 0) (6 : Fin 8) (x 2)) := by
  have hx : (x 2).val < 520 := (x 2).isLt
  unfold k1_pay11 valuesOf
  pointwise
  simp only [hv]
  repeat' split
  all_goals first | rfl | (exfalso; omega) | refine word_congr X _ _ ?_; show (_ : ℕ) - _ = _; omega

theorem row7 (X : S8x8x512.Idx → BitVec 32) (v : S8x1x512.Idx → BitVec 32)
    (hv : ∀ i, v i = X (ix3 (i 0) (7 : Fin 8) (i 2))) (x : S8x1x520.Idx) :
    k1_pay1 (F := F) v x = valuesOf X (ix3 (x 0) (7 : Fin 8) (x 2)) := by
  have hx : (x 2).val < 520 := (x 2).isLt
  unfold k1_pay1 valuesOf
  pointwise
  simp only [hv]
  repeat' split
  all_goals first | rfl | (exfalso; omega) | refine word_congr X _ _ ?_; show (_ : ℕ) - _ = _; omega

end Cert.Proof.Run

end
-- ==== Proof.Values.lean ====
/-
  The TensorCore kernel's body: run on the prompt's staging buffer, it leaves the delayed prompt in the result's.
-/
module

public import Idealize.ShloMosaic.Lib.Writes
public import Idealize.ShloMosaic.Lib.Pipeline.Frame
public import Idealize.ShloMosaic.Lib.Pipeline.FrameBody
public import Idealize.ShloMosaic.Lib.Pipeline.Value
public import proofs.«01_k».proof.Proof.Gen.KernelIdeal.Points
public import proofs.«01_k».proof.Proof.Rows

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The staging buffers of the prompt and of the result. -/
abbrev inV : Memref sig .tc .vmem S8x8x512 .i32 := Memref.whole cc1_stg0_0
abbrev resV : Memref sig .tc .vmem S8x8x520 .i32 := Memref.whole cc1_stg1_0

/-- A load of the prompt's buffer at codebook `q` reads that codebook's row. -/
theorem load_row (q : Fin 8) (off : Fin 3 → ℕ) (ho : off = ![0, q.val, 0])
    (inb : ∀ a, off a + S8x1x512.size a ≤ S8x8x512.size a)
    (X : S8x8x512.Idx → Elt F .i32) (i : S8x1x512.Idx) :
    inV.view.readAt (Elt F) (Rect.unit (s := S8x8x512) off S8x1x512.size inb).toLoadRect X i
      = X (ix3 (i 0) q (i 2)) := by
  subst ho
  have h1 : (i 1).val < 1 := (i 1).isLt
  rw [View.readAt_apply]
  show X _ = X _
  congr 1
  funext a
  apply Fin.ext
  fin_cases a
  · show 0 + 1 * (i 0).val = (i 0).val; omega
  · show q.val + 1 * (i 1).val = q.val; omega
  · show 0 + 1 * (i 2).val = (i 2).val; omega

/-- The row of the result's buffer at codebook `q`, by coordinates: where its elements are, and that it holds every
    element of that codebook. -/
theorem emb_row (q : Fin 8) (off : Fin 3 → ℕ) (ho : off = ![0, q.val, 0])
    (inb : ∀ a, off a + S8x1x520.size a ≤ S8x8x520.size a)
    (x : S8x1x520.Idx) :
    (Rect.unit (s := S8x8x520) off S8x1x520.size inb).emb x = ix3 (x 0) q (x 2) := by
  subst ho
  have h1 : (x 1).val < 1 := (x 1).isLt
  funext a
  apply Fin.ext
  fin_cases a
  · show 0 + 1 * (x 0).val = (x 0).val; omega
  · show q.val + 1 * (x 1).val = q.val; omega
  · show 0 + 1 * (x 2).val = (x 2).val; omega

/-- A stored row that is the delayed prompt at its codebook agrees with the delayed prompt where it lies. -/
theorem piece_row (X : S8x8x512.Idx → Elt F .i32) (q : Fin 8) (off : Fin 3 → ℕ) (ho : off = ![0, q.val, 0])
    (inb : ∀ a, off a + S8x1x520.size a ≤ S8x8x520.size a) (w : S8x1x520.Idx → Elt F .i32)
    (hw : ∀ x : S8x1x520.Idx, w x = valuesOf X (ix3 (x 0) q (x 2))) :
    ∀ x : (Rect.unit (s := S8x8x520) off S8x1x520.size inb).shape.Idx,
      w x = valuesOf X ((Rect.unit (s := S8x8x520) off S8x1x520.size inb).emb x) := fun x =>
  (hw x).trans (congrArg (valuesOf X) (emb_row q off ho inb x).symm)

theorem mem_row (q : Fin 8) (off : Fin 3 → ℕ) (ho : off = ![0, q.val, 0])
    (inb : ∀ a, off a + S8x1x520.size a ≤ S8x8x520.size a)
    (y : S8x8x520.Idx) (hy : y 1 = q) :
    y ∈ (Rect.unit (s := S8x8x520) off S8x1x520.size inb).set := by
  subst ho
  rw [Rect.mem_set_unit]
  intro a
  have h0 : (y 0).val < 8 := (y 0).isLt
  have h2 : (y 2).val < 520 := (y 2).isLt
  have h1 : (y 1).val = q.val := congrArg Fin.val hy
  fin_cases a
  · exact ⟨Nat.zero_le _, by show (y 0).val < 0 + 8; omega⟩
  · exact ⟨by show q.val ≤ (y 1).val; omega, by show (y 1).val < q.val + 1; omega⟩
  · exact ⟨Nat.zero_le _, by show (y 2).val < 0 + 520; omega⟩

/-- A list of rows, each the part of `G` where it lies and together covering the buffer, stored into the result's buffer
    leaves `G`. -/
theorem writes_of_rows (G Y : S8x8x520.Idx → Elt F .i32) (L : List (View.Piece (Elt F) S8x8x520 .i32))
    (hL : ∀ p ∈ L, ∀ x : p.1.shape.Idx, p.2 x = G (p.1.emb x)) (hc : ∀ y : S8x8x520.Idx, ∃ p ∈ L, y ∈ p.1.set) :
    resV.view.writes (Elt F) Y L = G :=
  funext fun y => View.read_writes_apply_of_pieces resV.view Y G L hL y (hc y)

/-- The eight rows stored one after another leave the delayed prompt, whatever the buffer held. -/
theorem writes_eq (X : S8x8x512.Idx → Elt F .i32) (Y : S8x8x520.Idx → Elt F .i32) :
    resV.view.writes (Elt F) Y
      [⟨Rect.unit (s := S8x8x520) ![0, 7, 0] S8x1x520.size inb_S8x8x520_S8x1x520_0_7_0,
          k1_pay1 (F := F) (inV.view.readAt (Elt F) (Rect.unit (s := S8x8x512) ![0, 7, 0] S8x1x512.size inb_S8x8x512_S8x1x512_0_7_0).toLoadRect X)⟩,
        ⟨Rect.unit (s := S8x8x520) ![0, 6, 0] S8x1x520.size inb_S8x8x520_S8x1x520_0_6_0,
          k1_pay11 (F := F) (inV.view.readAt (Elt F) (Rect.unit (s := S8x8x512) ![0, 6, 0] S8x1x512.size inb_S8x8x512_S8x1x512_0_6_0).toLoadRect X)⟩,
        ⟨Rect.unit (s := S8x8x520) ![0, 5, 0] S8x1x520.size inb_S8x8x520_S8x1x520_0_5_0,
          k1_pay10 (F := F) (inV.view.readAt (Elt F) (Rect.unit (s := S8x8x512) ![0, 5, 0] S8x1x512.size inb_S8x8x512_S8x1x512_0_5_0).toLoadRect X)⟩,
        ⟨Rect.unit (s := S8x8x520) ![0, 4, 0] S8x1x520.size inb_S8x8x520_S8x1x520_0_4_0,
          k1_pay9 (F := F) (inV.view.readAt (Elt F) (Rect.unit (s := S8x8x512) ![0, 4, 0] S8x1x512.size inb_S8x8x512_S8x1x512_0_4_0).toLoadRect X)⟩,
        ⟨Rect.unit (s := S8x8x520) ![0, 3, 0] S8x1x520.size inb_S8x8x520_S8x1x520_0_3_0,
          k1_pay8 (k1_pay5 (F := F) (inV.view.readAt (Elt F) (Rect.unit (s := S8x8x512) ![0, 3, 0] S8x1x512.size inb_S8x8x512_S8x1x512_0_3_0).toLoadRect X)) k1_pay6 k1_pay7⟩,
        ⟨Rect.unit (s := S8x8x520) ![0, 2, 0] S8x1x520.size inb_S8x8x520_S8x1x520_0_2_0,
          k1_pay4 (F := F) (inV.view.readAt (Elt F) (Rect.unit (s := S8x8x512) ![0, 2, 0] S8x1x512.size inb_S8x8x512_S8x1x512_0_2_0).toLoadRect X)⟩,
        ⟨Rect.unit (s := S8x8x520) ![0, 1, 0] S8x1x520.size inb_S8x8x520_S8x1x520_0_1_0,
          k1_pay3 (F := F) (inV.view.readAt (Elt F) (Rect.unit (s := S8x8x512) ![0, 1, 0] S8x1x512.size inb_S8x8x512_S8x1x512_0_1_0).toLoadRect X)⟩,
        ⟨Rect.unit (s := S8x8x520) ![0, 0, 0] S8x1x520.size inb_S8x8x520_S8x1x520_0_0_0,
          k1_pay2 (F := F) (inV.view.readAt (Elt F) (Rect.unit (s := S8x8x512) ![0, 0, 0] S8x1x512.size inb_S8x8x512_S8x1x512_0_0_0).toLoadRect X)⟩]
      = valuesOf X := by
  refine writes_of_rows (valuesOf X) Y _ ?_ fun y => ?_
  · refine List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_cons.2 ⟨?_, List.forall_mem_cons.2 ⟨?_,
      fun _ h => absurd h List.not_mem_nil⟩⟩⟩⟩⟩⟩⟩⟩
    · exact piece_row X 7 ![0, 7, 0] rfl inb_S8x8x520_S8x1x520_0_7_0 _
        (row7 (F := F) X _ (load_row 7 ![0, 7, 0] rfl inb_S8x8x512_S8x1x512_0_7_0 X))
    · exact piece_row X 6 ![0, 6, 0] rfl inb_S8x8x520_S8x1x520_0_6_0 _
        (row6 (F := F) X _ (load_row 6 ![0, 6, 0] rfl inb_S8x8x512_S8x1x512_0_6_0 X))
    · exact piece_row X 5 ![0, 5, 0] rfl inb_S8x8x520_S8x1x520_0_5_0 _
        (row5 (F := F) X _ (load_row 5 ![0, 5, 0] rfl inb_S8x8x512_S8x1x512_0_5_0 X))
    · exact piece_row X 4 ![0, 4, 0] rfl inb_S8x8x520_S8x1x520_0_4_0 _
        (row4 (F := F) X _ (load_row 4 ![0, 4, 0] rfl inb_S8x8x512_S8x1x512_0_4_0 X))
    · exact piece_row X 3 ![0, 3, 0] rfl inb_S8x8x520_S8x1x520_0_3_0 _
        (row3 (F := F) X _ (load_row 3 ![0, 3, 0] rfl inb_S8x8x512_S8x1x512_0_3_0 X))
    · exact piece_row X 2 ![0, 2, 0] rfl inb_S8x8x520_S8x1x520_0_2_0 _
        (row2 (F := F) X _ (load_row 2 ![0, 2, 0] rfl inb_S8x8x512_S8x1x512_0_2_0 X))
    · exact piece_row X 1 ![0, 1, 0] rfl inb_S8x8x520_S8x1x520_0_1_0 _
        (row1 (F := F) X _ (load_row 1 ![0, 1, 0] rfl inb_S8x8x512_S8x1x512_0_1_0 X))
    · exact piece_row X 0 ![0, 0, 0] rfl inb_S8x8x520_S8x1x520_0_0_0 _
        (row0 (F := F) X _ (load_row 0 ![0, 0, 0] rfl inb_S8x8x512_S8x1x512_0_0_0 X))
  · rcases (show y 1 = (0 : Fin 8) ∨ y 1 = (1 : Fin 8) ∨ y 1 = (2 : Fin 8) ∨ y 1 = (3 : Fin 8) ∨ y 1 = (4 : Fin 8)
      ∨ y 1 = (5 : Fin 8) ∨ y 1 = (6 : Fin 8) ∨ y 1 = (7 : Fin 8) from
      (by decide : ∀ q : Fin 8, q = 0 ∨ q = 1 ∨ q = 2 ∨ q = 3 ∨ q = 4 ∨ q = 5 ∨ q = 6 ∨ q = 7) (y 1))
      with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_row 0 ![0, 0, 0] rfl inb_S8x8x520_S8x1x520_0_0_0 y h⟩
    · exact ⟨_, List.mem_cons_of_mem _ (List.mem_cons_of_mem _ (List.mem_cons_of_mem _ (List.mem_cons_of_mem _ (List.mem_cons_of_mem _ (List.mem_cons_of_mem _ List.mem_cons_self))))), mem_row 1 ![0, 1, 0] rfl inb_S8x8x520_S8x1x520_0_1_0 y h⟩
    · exact ⟨_, List.mem_cons_of_mem _ (List.mem_cons_of_mem _ (List.mem_cons_of_mem _ (List.mem_cons_of_mem _ (List.mem_cons_of_mem _ List.mem_cons_self)))), mem_row 2 ![0, 2, 0] rfl inb_S8x8x520_S8x1x520_0_2_0 y h⟩
    · exact ⟨_, List.mem_cons_of_mem _ (List.mem_cons_of_mem _ (List.mem_cons_of_mem _ (List.mem_cons_of_mem _ List.mem_cons_self))), mem_row 3 ![0, 3, 0] rfl inb_S8x8x520_S8x1x520_0_3_0 y h⟩
    · exact ⟨_, List.mem_cons_of_mem _ (List.mem_cons_of_mem _ (List.mem_cons_of_mem _ List.mem_cons_self)), mem_row 4 ![0, 4, 0] rfl inb_S8x8x520_S8x1x520_0_4_0 y h⟩
    · exact ⟨_, List.mem_cons_of_mem _ (List.mem_cons_of_mem _ List.mem_cons_self), mem_row 5 ![0, 5, 0] rfl inb_S8x8x520_S8x1x520_0_5_0 y h⟩
    · exact ⟨_, List.mem_cons_of_mem _ List.mem_cons_self, mem_row 6 ![0, 6, 0] rfl inb_S8x8x520_S8x1x520_0_6_0 y h⟩
    · exact ⟨_, List.mem_cons_self, mem_row 7 ![0, 7, 0] rfl inb_S8x8x520_S8x1x520_0_7_0 y h⟩

/-- The body on the two staging buffers: the prompt's is read and kept, the result's is left with the delayed prompt. -/
theorem wp_body (d : Dev nD) (E : Set ℕ) (X : S8x8x512.Idx → Elt F .i32) (Y : S8x8x520.Idx → Elt F .i32)
    (Q : PUnit → sProp 𝕄) :
    iprop(((inV.view.loc (T d) ↦{fullShare} X) ∗ (resV.view.loc (T d) ↦{fullShare} Y))
          ∗ (((inV.view.loc (T d) ↦{fullShare} X) ∗ (resV.view.loc (T d) ↦{fullShare} valuesOf X)) -∗ Q ⟨⟩))
      ⊢ wp frame (wpE (defs₀ (F := F)) 𝒱₀ (T d) none) E
          (cc1__values_body (F := F) inV (hstage1_0 0) resV (hstage1_1 0)) Q := by
  rw [cc1__values_body_eq_skeleton]
  unfold cc1__values_body_skel
  rw [k1_part1_eq_skeleton, k1_part2_eq_skeleton]
  unfold k1_part1_skel k1_part2_skel
  iintro ⟨⟨HX, HY⟩, Hk⟩
  sl_exec
  rw [writes_eq X Y]
  sl_step
  iapply Hk
  isplitl [HX]
  · iexact HX
  · iexact HY

end Cert.Proof.Run

end
-- ==== Proof.Region.lean ====
/-
  The TensorCore kernel's region: entered with the prompt and the result's array, left with the delayed prompt there.
-/
module

public import Idealize.ShloMosaic.Lib.Pipeline.RegionArrays
public import proofs.«01_k».proof.Proof.Gen.KernelIdeal.Launch
public import proofs.«01_k».proof.Proof.Values

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The prompt's array and the delayed prompt's, on device `d`. -/
abbrev prLoc (d : Dev nD) : Loc nD τ sig := (SparseCore.T d).loc main_arg0
abbrev vaLoc (d : Dev nD) : Loc nD τ sig := (SparseCore.T d).loc main_v3

section Region

variable (X : Dev nD → S8x8x512.Idx → Elt F .i32) (Y : Dev nD → S8x8x520.Idx → Elt F .i32) (b : ℕ)

/-- The pipeline's proof data: the arrays at entry hold `X` and `Y`; after its one point the staging buffers hold
    the prompt and the delayed prompt; the core owes nothing, and every wait it has recorded sits at level `b` at most. -/
def dats (p : Fin 1) (c : Dev nD) : Pipeline.Dat τ (Elt F) (HIx 1) ℕ UU ℕ (cfgs p) c where
  A := fun | 0 => X c | 1 => Y c | ⟨_ + 2, h⟩ => absurd h (Nat.not_lt.2 (Nat.le_add_left _ _))
  after := fun | 0 => fun _ => X c | 1 => fun _ => valuesOf (X c) | ⟨_ + 2, h⟩ => absurd h (Nat.not_lt.2 (Nat.le_add_left _ _))
  Φ _ := iprop(emp)
  q _ := fullShare
  owed _ := 0
  recorded _ := {p | (K (F := F)).lev (SparseCore.T c, p.1) p.2 ≤ b}

/-- What the body finds in the prompt's staging buffer is the prompt. -/
theorem before_prompt (c : Dev nD) (t : Fin cfg1.N) (d) : (dats X Y b 0 c).before 0 t d = X c := by
  rcases fin_N1 t with rfl
  unfold Pipeline.Dat.before
  rw [if_pos (fetch1_0 _)]
  funext i
  show X c _ = X c i
  refine congrArg (X c) (funext fun a => Fin.ext ?_)
  show 0 * _ + 1 * (i a).val = (i a).val
  omega

/-- What is written back is the delayed prompt. -/
theorem flushed_values (c : Dev nD) (t : Fin cfg1.N) :
    (dats X Y b 0 c).flushed 1 t = (win1_1.blk t).view.read (Elt F) (valuesOf (X c)) := by
  funext i
  show valuesOf (X c) _ = valuesOf (X c) _
  refine congrArg (valuesOf (X c)) (funext fun a => Fin.ext ?_)
  show (i a).val = 0 * _ + 1 * (i a).val
  omega

/-- The one block written back is the whole array. -/
theorem cover_values (i : S8x8x520.Idx) :
    ∃ t : Fin cfg1.N, (cfg1.win 1).flush t = true ∧ i ∈ ((cfg1.win 1).blk t).view.set := by
  refine ⟨t1_0, flush1_1 _, ?_⟩
  show i ∈ ((View.whole main_v3).slice (win1_1.rect t1_0)).set
  rw [View.set_slice_whole, Rect.mem_set_unit]
  intro a
  have h := (i a).isLt
  show 0 * _ ≤ (i a).val ∧ (i a).val < 0 * _ + S8x8x520.size a
  have h' : (i a).val < S8x8x520.size a := h
  omega

/-- So the array of the delayed prompt ends holding it, -/
theorem final_values (c : Dev nD) : (dats X Y b 0 c).arrAt 1 cfg1.N = valuesOf (X c) :=
  (dats X Y b 0 c).arrAt_eq_of_cover 1 (valuesOf (X c)) (fun t _ => flushed_values X Y b c t) cover_values

/-- and the prompt's what it held. -/
theorem final_prompt (c : Dev nD) : (dats X Y b 0 c).arrAt 0 cfg1.N = X c :=
  (dats X Y b 0 c).arrAt_in 0 rfl _

/-- The body's run, its buffers as the pipeline holds them: whatever the result's held, it ends with the delayed prompt. -/
theorem body_run (c : Dev nD) (Φ O : sProp 𝕄) (x : S8x8x512.Idx → Elt F .i32) (y : S8x8x520.Idx → Elt F .i32) :
    iprop(Φ ∗ O ∗ owns (SparseCore.T c) inV fullShare x ∗ owns (SparseCore.T c) resV fullShare y)
      ⊢ wp frame (wpE (defs₀ (F := F)) 𝒱₀ (SparseCore.T c) none) Set.univ
          (cc1__values_body (F := F) inV (hstage1_0 0) resV (hstage1_1 0))
          fun _ => iprop(Φ ∗ O ∗ owns (SparseCore.T c) inV fullShare x ∗ owns (SparseCore.T c) resV fullShare (valuesOf x)) := by
  rw [owns_whole_eq (SparseCore.T c) cc1_stg0_0, owns_whole_eq (SparseCore.T c) cc1_stg1_0,
    owns_whole_eq (SparseCore.T c) cc1_stg1_0]
  iintro ⟨HΦ, HO, ⟨%f0, %e0, H0⟩, ⟨%f1, %e1, H1⟩⟩
  subst e0
  iapply (wp_body c Set.univ f0 f1 _)
  isplitl [H0 H1]
  · isplitl [H0]
    · iexact H0
    · iexact H1
  iintro ⟨H0, H1⟩
  isplitl [HΦ]; · iexact HΦ
  isplitl [HO]; · iexact HO
  isplitl [H0]
  · iexists f0
    isplitr; · ipureintro; rfl
    iexact H0
  · iexists (valuesOf f0)
    isplitr; · ipureintro; rfl
    iexact H1

/-- The body runs from what the pipeline holds before its point to what it holds after it. -/
theorem body_obligation (c : Dev nD) :
    Pipeline.BodyObligationLoose (dats X Y b 0 c) (defs₀ (F := F)) 𝒱₀ none Set.univ := by
  intro t
  rw [bigSep_W1, bigSep_W1]
  rcases fin_N1 t with rfl
  show iprop(_ ∗ (dats X Y b 0 c).owesAt none 0 ∗ (∃ d, owns (SparseCore.T c) inV fullShare ((dats X Y b 0 c).before 0 t1_0 d))
      ∗ (∃ d, owns (SparseCore.T c) resV fullShare ((dats X Y b 0 c).before 1 t1_0 d)))
    ⊢ wp frame (wpE (defs₀ (F := F)) 𝒱₀ (SparseCore.T c) none) Set.univ
          (cc1__values_body (F := F) inV (hstage1_0 0) resV (hstage1_1 0))
          fun _ => iprop(emp ∗ (dats X Y b 0 c).owesAt none 0 ∗ owns (SparseCore.T c) inV fullShare (X c)
            ∗ owns (SparseCore.T c) resV fullShare (valuesOf (X c)))
  iintro ⟨HΦ, HO, ⟨%d0, H0⟩, ⟨%d1, H1⟩⟩
  rw [before_prompt]
  iapply (body_run c iprop(emp) _ (X c) _)
  isplitr; · iempintro
  isplitl [HO]; · iexact HO
  isplitl [H0]
  · iexact H0
  · iexact H1

/-- The arrays the pipeline holds are the prompt's and the result's. -/
theorem arrays_two (c : Dev nD) (G : (w : Fin 2) → Buf (Elt F) ((cfg1.win w).arr.view.loc (SparseCore.T c))) :
    ((dats X Y b 0 c).arrays G : sProp 𝕄) = iprop((prLoc c ↦{fullShare} G 0) ∗ (vaLoc c ↦{fullShare} G 1)) := by
  rw [Pipeline.arrays_eq cfgs (dats X Y b) 0 c launch1.arr_whole (fun w => by fin_cases w <;> rfl) G]
  exact bigSep_W1 _

/-- The region of the call. -/
def seg : Pipeline.RegionSeg (pcfgs (F := F)) (fun p => (cfgs p).toPCfg_adm) (dats X Y b) none (defs₀ (F := F)) 𝒱₀
    (K (F := F)).L (K (F := F)).lev 0 where
  win := launch1.win.to₀
  block_pos := launch1.block_pos
  stage_whole := launch1.stage_whole
  K := PEmpty
  osem k := k.elim
  ho := Pipeline.OwnSemFacts.none _
  hbody := body_obligation X Y b
  hwaits c := (show _ ⊢ (iprop(emp) : sProp 𝕄) from by iintro -; iempintro).trans
    (Pipeline.cellsWaits_of_owed_zero cfgs (dats X Y b) none 0 c (fun _ => rfl))
  pre c := iprop((prLoc c ↦{fullShare} X c) ∗ (vaLoc c ↦{fullShare} Y c)
    ∗ ∃ W, ⌜(K (F := F)).WBelow (SparseCore.T c) W b⌝ ∗ owes (SparseCore.T c) 0 W)
  post c := iprop((prLoc c ↦{fullShare} X c) ∗ (vaLoc c ↦{fullShare} valuesOf (X c))
    ∗ ∃ W, ⌜(K (F := F)).WBelow (SparseCore.T c) W b⌝ ∗ owes (SparseCore.T c) 0 W)
  X _ := iprop(emp)
  Y _ := iprop(emp)
  Z _ := iprop(emp)
  hentry c := by
    rw [Pipeline.ownSems0_none, Pipeline.prefHeld_of_none _ rfl]
    show iprop(_ ∗ _ ∗ _) ⊢ |={Set.univ}=> iprop((dats X Y b 0 c).arrays ((dats X Y b 0 c).arrAt · 0) ∗ _ ∗ (dats X Y b 0 c).owesAt none 0 ∗ _ ∗ _)
    rw [arrays_two]
    iintro ⟨⟨HX, HY, HO⟩, -, -⟩
    imodintro
    isplitl [HX HY]
    · isplitl [HX]
      · iexact HX
      · iexact HY
    isplitr; · iempintro
    isplitl [HO]
    · unfold Pipeline.Dat.owesAt Pipeline.owesWithin Pipeline.Dat.bound
      icases HO with ⟨%W, %hW, HO⟩
      iexists W
      isplitr; · ipureintro; exact fun q hq => Or.inl (hW q hq)
      iexact HO
    isplitr <;> iempintro
  hin c := by
    iintro -
    iempintro
  hout c := by
    rw [Pipeline.ownSems0_none]
    show _ ⊢ iprop(_ ∗ _ ∗ Pipeline.scopedRest spec1 c)
    rw [scopedRest1_eq]
    iintro -
    isplitr; · iempintro
    isplitr <;> iempintro
  hexit c := by
    show iprop((dats X Y b 0 c).arrays ((dats X Y b 0 c).arrAt · cfg1.N) ∗ (dats X Y b 0 c).owesAt none (Fin.last cfg1.N) ∗ _ ∗ _) ⊢ _
    rw [arrays_two, final_values, final_prompt]
    iintro ⟨⟨HX, HY⟩, HO, -, -⟩
    imodintro
    isplitl [HX]; · iexact HX
    isplitl [HY]; · iexact HY
    unfold Pipeline.Dat.owesAt Pipeline.owesWithin Pipeline.Dat.bound
    icases HO with ⟨%W, %hW, HO⟩
    iexists W
    isplitr
    · ipureintro
      intro q hq
      rcases hW hq with h | ⟨w, s, e⟩
      · exact h
      · rw [e]; exact Nat.zero_le _
    iexact HO

/-- The embedding of the pipeline's counters in the ghost state. -/
def EP : Emb UP 𝕄 := (Emb.inl : Emb UP (UP × Counters)).trans embR

instance : (EP (F := F)).LandsIn (upEmb : UEmb _ 𝕄) := by unfold EP; infer_instance

/-- The call's step of @main: from the boundary, the prompt, the result's array and a core that owes nothing, it goes on
    with the delayed prompt in the result's array. -/
theorem wp_region [∀ e, Nonempty (Elt F e)] (c : Dev nD) (Φ : PUnit → sProp 𝕄) :
    iprop((iprop(boundary (SparseCore.T c) ∗ (seg X Y b).post c) -∗ Φ ⟨⟩)
        ∗ boundary (SparseCore.T c) ∗ (seg X Y b).pre c ∗ levAts (K (F := F)).L (K (F := F)).lev
        ∗ Pipeline.cellsGhost cfgs (EP (F := F)) 0 c ∗ Pipeline.toksInit cfgs (EP (F := F)) 0 c)
      ⊢ wp frame (wpE ((K (F := F)).defs (D (F := F))) 𝒱 (SparseCore.T c) none) Set.univ
          (Prog.lift (.customCall (SparseCore.inner (Pipeline.entry 0)) ())) Φ := by
  have hlift := (K (F := F)).wp_liftProg (D (F := F)) 𝒱 (SparseCore.T c) Set.univ none
    (.op (.customCall (Pipeline.entry 0) ()) .ret) Φ
  have hseg := Pipeline.RegionSeg.wp (pcfgs (F := F)) (fun p => (cfgs p).toPCfg_adm) (dats X Y b) none cellOf_inj
    (EP (F := F)) (defs₀ (F := F)) 𝒱₀ (K (F := F)).L (K (F := F)).lev (seg X Y b) c none (fun u hu => nomatch hu) .ret Φ
  refine BIBase.Entails.trans ?_ (hseg.trans hlift)
  iintro ⟨Hk, H⟩
  isplitl [Hk]
  · iintro H
    rw [wp_ret]
    imodintro
    iapply Hk
    iexact H
  · iexact H

/-- The same, the two states spelled out. -/
theorem wp_values [∀ e, Nonempty (Elt F e)] (c : Dev nD) (Φ : PUnit → sProp 𝕄) :
    iprop((iprop(boundary (SparseCore.T c) ∗ ((prLoc c ↦{fullShare} X c) ∗ (vaLoc c ↦{fullShare} valuesOf (X c))
          ∗ ∃ W, ⌜(K (F := F)).WBelow (SparseCore.T c) W b⌝ ∗ owes (SparseCore.T c) 0 W)) -∗ Φ ⟨⟩)
        ∗ boundary (SparseCore.T c) ∗ ((prLoc c ↦{fullShare} X c) ∗ (vaLoc c ↦{fullShare} Y c)
          ∗ ∃ W, ⌜(K (F := F)).WBelow (SparseCore.T c) W b⌝ ∗ owes (SparseCore.T c) 0 W) ∗ levAts (K (F := F)).L (K (F := F)).lev
        ∗ Pipeline.cellsGhost cfgs (EP (F := F)) 0 c ∗ Pipeline.toksInit cfgs (EP (F := F)) 0 c)
      ⊢ wp frame (wpE ((K (F := F)).defs (D (F := F))) 𝒱 (SparseCore.T c) none) Set.univ
          (Prog.lift (.customCall (SparseCore.inner (Pipeline.entry 0)) ())) Φ :=
  wp_region X Y b c Φ

end Region

end Cert.Proof.Run

end
-- ==== Proof.Copies.lean ====
/-
  One tile's transfers, one at a time: a chunk of sixteen rows fetched from the logits into a staging buffer, the wait for
  it, the same chunk written out to the result. Each is stated with its contents: what lands in the buffer is the chunk
  the result's rows want, and what the write leaves in those rows is the gathered logits.
-/
module

public import proofs.«01_k».proof.Proof.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Chunks -/

/-- Where in the logits chunk `c` of task `w` begins: block `2 w + c / 32`, shifted by its codebook number, sixteen rows
    per chunk. -/
def srcOff (w c : ℕ) : ℕ := (2 * w + c / 32) * 519 + (2 * w + c / 32) % 8 + 16 * (c % 32)

/-- `f` is chunk `c` of task `w`: what the result's rows from `1024 w + 16 c` want. -/
def Chunk (A : S33216x2048.Idx → Elt F .f32) (w c : ℕ) (f : S16x2048.Idx → Elt F .f32) : Prop :=
  ∀ (j : S16x2048.Idx) (x : S32768x2048.Idx), (x 0).val = 1024 * w + 16 * c + (j 0).val → (x 1).val = (j 1).val → f j = gath A x

/-- The logits' rows from `srcOff w c` on are chunk `c` of task `w`. -/
theorem chunk_of_read (A : S33216x2048.Idx → Elt F .f32) {w c : ℕ} (hc : c < 64) (off : Fin 2 → ℕ)
    (inb : ∀ a, off a + S16x2048.size a ≤ S33216x2048.size a) (h0 : off 0 = srcOff w c) (h1 : off 1 = 0) :
    Chunk A w c (((lgV).slice (Rect.unit (s := S33216x2048) off S16x2048.size inb) (fun _ => rfl)).view.read (Elt F) A) := by
  intro j x hx0 hx1
  have hj : (j 0).val < 16 := (j 0).isLt
  have e : ((lgV).slice (Rect.unit (s := S33216x2048) off S16x2048.size inb) (fun _ => rfl)).view.emb j = srcIdx x := by
    funext a
    apply Fin.ext
    match a with
    | 0 =>
      show off 0 + 1 * (j 0).val = srcRow (x 0).val
      rw [h0, hx0]
      unfold srcOff srcRow
      omega
    | 1 =>
      show off 1 + 1 * (j 1).val = (x 1).val
      rw [h1, hx1]
      omega
  refine (View.read_apply _ _).trans ((cast_eq _ _).trans ?_)
  exact congrArg A e

/-- The result's rows a write of chunk `c` of task `w` covers. -/
def winSet (w c : ℕ) : Finset S32768x2048.Idx :=
  Finset.univ.filter fun x => 1024 * w + 16 * c ≤ (x 0).val ∧ (x 0).val < 1024 * w + 16 * c + 16

theorem mem_winSet {w c : ℕ} {x : S32768x2048.Idx} :
    x ∈ winSet w c ↔ 1024 * w + 16 * c ≤ (x 0).val ∧ (x 0).val < 1024 * w + 16 * c + 16 := by simp [winSet]

/-- Sixteen rows of the result from `off 0`, as the program slices them, are chunk `c`'s. -/
theorem set_outWin {w c : ℕ} (off : Fin 2 → ℕ) (inb : ∀ a, off a + S16x2048.size a ≤ S32768x2048.size a)
    (h0 : off 0 = 1024 * w + 16 * c) (h1 : off 1 = 0) :
    ((outV).slice (Rect.unit (s := S32768x2048) off S16x2048.size inb) (fun _ => rfl)).view.set = winSet w c := by
  show ((View.whole (main_v1_scv : Ref sig .scVector)).slice (Rect.unit (s := S32768x2048) off S16x2048.size inb)).set = _
  rw [View.set_slice_whole]
  ext x
  have h2 : (x 1).val < 2048 := (x 1).isLt
  rw [mem_winSet]
  refine Rect.mem_set_unit.trans ⟨fun h => ?_, fun h a => ?_⟩
  · have := h 0
    rw [h0] at this
    exact this
  · match a with
    | 0 => rw [h0]; exact h
    | 1 => rw [h1]; exact ⟨Nat.zero_le _, by simpa using h2⟩

/-- A chunk written over sixteen rows of the result leaves the gathered logits there. -/
theorem write_chunk (A : S33216x2048.Idx → Elt F .f32) {w c : ℕ} (off : Fin 2 → ℕ)
    (inb : ∀ a, off a + S16x2048.size a ≤ S32768x2048.size a) (h0 : off 0 = 1024 * w + 16 * c) (h1 : off 1 = 0)
    (f : S16x2048.Idx → Elt F .f32) (hf : Chunk A w c f) (g : S32768x2048.Idx → Elt F .f32) :
    ∀ x ∈ winSet w c, ((outV).slice (Rect.unit (s := S32768x2048) off S16x2048.size inb) (fun _ => rfl)).view.write (Elt F) g f Finset.univ x
      = gath A x := by
  intro x hx
  rw [← set_outWin off inb h0 h1] at hx
  obtain ⟨j, -, rfl⟩ := Finset.mem_map.mp hx
  rw [View.write_emb_of_mem _ _ (Finset.mem_univ j)]
  refine (cast_eq _ _).trans (hf j _ ?_ ?_)
  · show off 0 + 1 * (j 0).val = _
    rw [h0]; omega
  · show off 1 + 1 * (j 1).val = _
    rw [h1]; omega

/-! ## The transfers -/

section Transfers

variable [FloatOps F] (d : Dev nD) (c : Fin τ.nSC) (s : Fin τ.nSub)
  (A : S33216x2048.Idx → Elt F .f32)

/-- A fetch of chunk `n` of task `w` under way into `buf`, completing on `sem`: at its end the buffer holds the chunk and
    the lent part of the logits' share `q` is back; the rest of the share is here. -/
def Fetching (w : ℕ) (buf : Memref sig .scVector .vmem S16x2048 .f32) (sem : DmaSem sig) (q : PosShare TreeShare) (n : ℕ) : sProp 𝕄 :=
  iprop(∃ I : Finset (Idx (lgLoc d)),
    Transfers.Flight countersEmb (V d c s) (.dma sem) (default : HIx 1) buf.view.dmaCredit
        iprop((∃ f, ⌜Chunk A w n (buf.view.read (Elt F) f)⌝ ∗ buf.view.loc (V d c s) ↦[buf.view.set]{fullShare} f) ∗ lgLoc d ↦[I]{q} A)
      ∗ lgLoc d ↦[Finset.univ \ I]{q} A)

/-- No fetch under way: the buffer at some contents, the whole share of the logits, the semaphore at zero. -/
def Idle (buf : Memref sig .scVector .vmem S16x2048 .f32) (sem : DmaSem sig) (q : PosShare TreeShare) : sProp 𝕄 :=
  iprop((∃ f, buf.view.loc (V d c s) ↦[buf.view.set]{fullShare} f) ∗ (lgLoc d ↦{q} A) ∗ semVal (V d c s, .dma sem) 0)

theorem numel_pos : 0 < S16x2048.numel := by decide

/-- Starting a fetch. -/
theorem wp_fetch {w n : ℕ} (hn : n < 64) {buf : Memref sig .scVector .vmem S16x2048 .f32} {sem : DmaSem sig} {q : PosShare TreeShare}
    {off : Fin 2 → ℕ} {inb : ∀ a, off a + S16x2048.size a ≤ S33216x2048.size a} (h0 : off 0 = srcOff w n) (h1 : off 1 = 0)
    {hsrc} {hdst} {hsem} {α : Type} {k : PUnit → Prog (TpuEff nD τ sig (Elt F) Λ₀ (.scVector c s)) α} {Q : α → sProp 𝕄} :
    Idle d c s A buf sem q
      ⊢ iprop((Fetching d c s A w buf sem q n -∗ wp frame (wpE (defs₀ (F := F)) 𝒱₀ (V d c s) none) Set.univ (k ⟨⟩) Q)
          -∗ wp frame (wpE (defs₀ (F := F)) 𝒱₀ (V d c s) none) Set.univ
            (.op (.enqueueDma ((lgV).slice (Rect.unit (s := S33216x2048) off S16x2048.size inb) (fun _ => rfl)) (.here buf) (.dma sem) hsrc hdst hsem) k) Q) := by
  unfold Idle
  iintro ⟨⟨%f, Hb⟩, Hl, Hs⟩ Hk
  ihave Hl' := (pointsTo_split_subset (q := q) (f := A) (S := Finset.univ)
    (Finset.subset_univ ((lgV).slice (Rect.unit (s := S33216x2048) off S16x2048.size inb) (fun _ => rfl)).view.set)).1 $$ Hl
  icases Hl' with ⟨Hl, Hlr⟩
  iapply (Transfers.wp_dmaLocal countersEmb 𝒱₀ (V d c s) none (default : HIx 1) buf.view.dmaCredit rfl
    (View.amount_pos _ (.dma sem) numel_pos) (Finset.Subset.refl _)) $$ [Hl Hb Hs]
  · isplitl [Hl]; · iexact Hl
    isplitl [Hb]; · iexact Hb
    iexact Hs
  iintro Hfl
  iapply Hk
  unfold Fetching
  iexists _
  isplitl [Hfl]
  · iapply (Transfers.Flight_mono countersEmb (V d c s) ?_) $$ Hfl
    iintro ⟨Hb, Hl⟩
    isplitl [Hb]
    · iexists _
      isplitr
      swap; · iexact Hb
      ipureintro
      rw [View.read_write_univ]
      exact chunk_of_read A hn off inb h0 h1
    iexact Hl
  iexact Hlr

/-- Waiting for a fetch: the buffer holds the chunk, the share of the logits is whole again. -/
theorem wp_fetched {w n : ℕ} {buf : Memref sig .scVector .vmem S16x2048 .f32} {sem : DmaSem sig} {q : PosShare TreeShare}
    {O : CellTallies nD τ sig (HIx 1)} {W : Waits sig (HIx 1)}
    {s' : Shape} {e' : EltTy} {sp' : Space} {srcw : Memref sig .scVector sp' s' e'}
    {hsrc} {hdst} {α : Type} {k : PUnit → Prog (TpuEff nD τ sig (Elt F) Λ₀ (.scVector c s)) α} {Q : α → sProp 𝕄} :
    iprop(Fetching d c s A w buf sem q n ∗ owes (V d c s) O W ∗ Transfers.MayWaits (V d c s) (default : HIx 1) O)
      ⊢ iprop((iprop((∃ f, ⌜Chunk A w n (buf.view.read (Elt F) f)⌝ ∗ buf.view.loc (V d c s) ↦[buf.view.set]{fullShare} f) ∗ (lgLoc d ↦{q} A)
                ∗ semVal (V d c s, .dma sem) 0 ∗ owes (V d c s) O (insert (SemLoc.dma sem, (default : HIx 1)) W))
              -∗ wp frame (wpE (defs₀ (F := F)) 𝒱₀ (V d c s) none) Set.univ (k ⟨⟩) Q)
          -∗ wp frame (wpE (defs₀ (F := F)) 𝒱₀ (V d c s) none) Set.univ (.op (.waitDma2 sem srcw buf hsrc hdst) k) Q) := by
  unfold Fetching
  iintro ⟨⟨%I, Hfl, Hlr⟩, HO, Hmw⟩ Hk
  iapply (Transfers.wp_waitLocalO countersEmb 𝒱₀ (V d c s) none (default : HIx 1) (rfl : buf.view.dmaCredit = _)) $$ [Hfl HO Hmw]
  · isplitl [Hfl]; · iexact Hfl
    isplitl [HO]; · iexact HO
    iapply (Transfers.MayWaits.elim (SemLoc.dma sem)) $$ Hmw
  iintro ⟨⟨Hb, Hl⟩, Hs, HO⟩
  iapply Hk
  isplitl [Hb]; · iexact Hb
  isplitl [Hl Hlr]
  · iapply (pointsTo_split_subset (q := q) (f := A) (S := Finset.univ) (Finset.subset_univ I)).2
    isplitl [Hl] <;> iassumption
  isplitl [Hs] <;> iassumption

/-- What a write of chunk `n` delivers: its rows at the gathered logits, the buffer back. -/
def Written (w : ℕ) (buf : Memref sig .scVector .vmem S16x2048 .f32) (n : ℕ) : sProp 𝕄 :=
  iprop((outLoc d ↦[winSet w n]{fullShare} gath A) ∗ ∃ f, buf.view.loc (V d c s) ↦[buf.view.set]{fullShare} f)

/-- The credit of a sixteen-row window of the result: what a write adds to its semaphore. -/
abbrev winCredit : ℕ := ((outV).slice (Rect.unit (s := S32768x2048) ![0, 0] S16x2048.size inb_S32768x2048_S16x2048_0_0) (fun _ => rfl)).view.dmaCredit

/-- Starting the write of a fetched chunk. -/
theorem wp_put {w n : ℕ} {buf : Memref sig .scVector .vmem S16x2048 .f32} {sem : DmaSem sig}
    {off : Fin 2 → ℕ} {inb : ∀ a, off a + S16x2048.size a ≤ S32768x2048.size a} (h0 : off 0 = 1024 * w + 16 * n) (h1 : off 1 = 0)
    {g : S32768x2048.Idx → Elt F .f32}
    {hsrc} {hdst} {hsem} {α : Type} {k : PUnit → Prog (TpuEff nD τ sig (Elt F) Λ₀ (.scVector c s)) α} {Q : α → sProp 𝕄} :
    iprop((∃ f, ⌜Chunk A w n (buf.view.read (Elt F) f)⌝ ∗ buf.view.loc (V d c s) ↦[buf.view.set]{fullShare} f)
        ∗ (outLoc d ↦[winSet w n]{fullShare} g) ∗ semVal (V d c s, .dma sem) 0)
      ⊢ iprop((Transfers.Flight countersEmb (V d c s) (.dma sem) (default : HIx 1) winCredit (Written d c s A w buf n)
              -∗ wp frame (wpE (defs₀ (F := F)) 𝒱₀ (V d c s) none) Set.univ (k ⟨⟩) Q)
          -∗ wp frame (wpE (defs₀ (F := F)) 𝒱₀ (V d c s) none) Set.univ
            (.op (.enqueueDma buf (.here ((outV).slice (Rect.unit (s := S32768x2048) off S16x2048.size inb) (fun _ => rfl))) (.dma sem) hsrc hdst hsem) k) Q) := by
  iintro ⟨⟨%f, %hf, Hb⟩, Ho, Hs⟩ Hk
  ihave Ho' := (Entails.of_eq (show (outLoc d ↦[winSet w n]{fullShare} g : sProp 𝕄)
      = ((outV).slice (Rect.unit (s := S32768x2048) off S16x2048.size inb) (fun _ => rfl)).view.loc (V d c s)
          ↦[((outV).slice (Rect.unit (s := S32768x2048) off S16x2048.size inb) (fun _ => rfl)).view.set]{fullShare} g by
        rw [set_outWin off inb h0 h1])) $$ Ho
  iapply (Transfers.wp_dmaLocal countersEmb 𝒱₀ (V d c s) none (default : HIx 1) winCredit rfl
    (View.amount_pos _ (.dma sem) numel_pos) (Finset.Subset.refl _)) $$ [Ho' Hb Hs]
  · isplitl [Hb]; · iexact Hb
    isplitl [Ho']; · iexact Ho'
    iexact Hs
  iintro Hfl
  iapply Hk
  iapply (Transfers.Flight_mono countersEmb (V d c s) ?_) $$ Hfl
  unfold Written
  iintro ⟨Ho, Hb⟩
  isplitl [Ho]
  · iapply (Entails.of_eq ?_) $$ Ho
    rw [set_outWin off inb h0 h1]
    exact pointsTo_congr (write_chunk A off inb h0 h1 _ hf g)
  iexists _; iexact Hb

/-- Waiting for a write. -/
theorem wp_written {w n : ℕ} {buf : Memref sig .scVector .vmem S16x2048 .f32} {sem : DmaSem sig}
    {O : CellTallies nD τ sig (HIx 1)} {W : Waits sig (HIx 1)}
    {s' : Shape} {e' : EltTy} {sp' : Space} {srcw : Memref sig .scVector sp' s' e'}
    {hsrc} {hdst} {α : Type} {k : PUnit → Prog (TpuEff nD τ sig (Elt F) Λ₀ (.scVector c s)) α} {Q : α → sProp 𝕄} :
    iprop(Transfers.Flight countersEmb (V d c s) (.dma sem) (default : HIx 1) winCredit (Written d c s A w buf n)
        ∗ owes (V d c s) O W ∗ Transfers.MayWaits (V d c s) (default : HIx 1) O)
      ⊢ iprop((iprop(Written d c s A w buf n ∗ semVal (V d c s, .dma sem) 0 ∗ owes (V d c s) O (insert (SemLoc.dma sem, (default : HIx 1)) W))
              -∗ wp frame (wpE (defs₀ (F := F)) 𝒱₀ (V d c s) none) Set.univ (k ⟨⟩) Q)
          -∗ wp frame (wpE (defs₀ (F := F)) 𝒱₀ (V d c s) none) Set.univ
            (.op (.waitDma2 sem srcw ((outV).slice (Rect.unit (s := S32768x2048) ![0, 0] S16x2048.size inb_S32768x2048_S16x2048_0_0) (fun _ => rfl)) hsrc hdst) k) Q) := by
  iintro ⟨Hfl, HO, Hmw⟩ Hk
  iapply (Transfers.wp_waitLocalO countersEmb 𝒱₀ (V d c s) none (default : HIx 1) (rfl : winCredit = _)) $$ [Hfl HO Hmw]
  · isplitl [Hfl]; · iexact Hfl
    isplitl [HO]; · iexact HO
    iapply (Transfers.MayWaits.elim (SemLoc.dma sem)) $$ Hmw
  iexact Hk

end Transfers

end Cert.Proof.Run

end
-- ==== Proof.Tile.lean ====
/-
  The kernel's body on one tile: thirty-two trips, each finishing two fetches, writing the two chunks out and starting the
  next two. The loop's invariant says which rows of the result already hold the gathered logits.
-/
module

public import proofs.«01_k».proof.Proof.Copies

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tile and its offsets -/

abbrev cV (L : grid0.Coords) : Fin τ.nSC := (L 0).castLE hcore0
abbrev jV (L : grid0.Coords) : Fin τ.nSub := (L 1).castLE hsub0

/-- The task's number, as the program computes it from its coordinates. -/
abbrev wid (L : grid0.Coords) : ℕ := 2 * (L 1).val + (L 0).val

theorem coords_lt (L : grid0.Coords) : (L 0).val < 2 ∧ (L 1).val < 16 := ⟨(L 0).isLt, (L 1).isLt⟩

/-- The first two fetches begin at chunks 0 and 1. -/
theorem off1_0 : ∀ L : grid0.Coords, k0_off1 L 0#32 0#32 0 = srcOff (wid L) 0 ∧ k0_off1 L 0#32 0#32 1 = 0 := by decide +kernel
theorem off1_1 : ∀ L : grid0.Coords, k0_off1 L 1#32 1#32 0 = srcOff (wid L) 1 ∧ k0_off1 L 1#32 1#32 1 = 0 := by decide +kernel

theorem off3 (L : grid0.Coords) (k : Fin k0_t1_loop.trips) :
    k0_off3 L k 0 = srcOff (wid L) (2 * (k.val + 1)) ∧ k0_off3 L k 1 = 0 := by
  rw [k0_off3_eq]
  refine ⟨?_, rfl⟩
  show 2076 * (L 1).val + 1038 * (L 0).val + _ + _ + _ = _
  unfold srcOff wid
  omega
theorem off4 (L : grid0.Coords) (k : Fin k0_t1_loop.trips) :
    k0_off4 L k 0 = srcOff (wid L) (2 * (k.val + 1) + 1) ∧ k0_off4 L k 1 = 0 := by
  rw [k0_off4_eq]
  refine ⟨?_, rfl⟩
  show 2076 * (L 1).val + 1038 * (L 0).val + _ + _ + _ = _
  unfold srcOff wid
  omega
theorem off2_0 (L : grid0.Coords) (k : Fin k0_t1_loop.trips) :
    k0_off2 L k 0#32 0 = 1024 * wid L + 16 * (2 * k.val) ∧ k0_off2 L k 0#32 1 = 0 := by
  have h := k0_off2_eq L k 0
  rw [show k0_off2 L k 0#32 = _ from h]
  refine ⟨?_, rfl⟩
  show 2048 * (L 1).val + 1024 * (L 0).val + 32 * k.val + 16 * 0 = _
  unfold wid; omega
theorem off2_1 (L : grid0.Coords) (k : Fin k0_t1_loop.trips) :
    k0_off2 L k 1#32 0 = 1024 * wid L + 16 * (2 * k.val + 1) ∧ k0_off2 L k 1#32 1 = 0 := by
  have h := k0_off2_eq L k 1
  rw [show k0_off2 L k 1#32 = _ from h]
  refine ⟨?_, rfl⟩
  show 2048 * (L 1).val + 1024 * (L 0).val + 32 * k.val + 16 * 1 = _
  unfold wid; omega

/-- Both branches are taken on every trip but the last. -/
theorem cond1 : ∀ k : Fin k0_t1_loop.trips, k0_cond1 k = 1#1 ↔ k.val < 31 := by decide +kernel
theorem cond2 : ∀ k : Fin k0_t1_loop.trips, k0_cond2 k = 1#1 ↔ k.val < 31 := by decide +kernel

theorem trips_eq : k0_t1_loop.trips = 32 := by decide +kernel

/-! ## Which rows of the result are done -/

/-- The result after `k` trips of task `w`: its first `32 k` rows gathered, the others as they were. -/
def part (A : S33216x2048.Idx → Elt F .f32) (B : S32768x2048.Idx → Elt F .f32) (w k : ℕ) : S32768x2048.Idx → Elt F .f32 :=
  fun x => if (x 0).val < 1024 * w + 32 * k then gath A x else B x

section Rows

variable (d : Dev nD) (A : S33216x2048.Idx → Elt F .f32) (B : S32768x2048.Idx → Elt F .f32)

/-- The rest of a task's rows during trip `k`: all but the two chunks being written. -/
abbrev restSet (w k : ℕ) : Finset S32768x2048.Idx := (taskSet w \ winSet w (2 * k)) \ winSet w (2 * k + 1)

theorem win_sub {w n : ℕ} (hn : n < 64) : winSet w n ⊆ taskSet w := fun x hx => by
  rw [mem_winSet] at hx; rw [mem_taskSet]; omega

theorem win_sub' {w k : ℕ} (hk : k < 32) : winSet w (2 * k + 1) ⊆ taskSet w \ winSet w (2 * k) := fun x hx => by
  rw [Finset.mem_sdiff, mem_taskSet, mem_winSet]; rw [mem_winSet] at hx; omega

/-- Trip `k`'s two windows taken out of the task's rows. -/
theorem rows_split {w k : ℕ} (hk : k < 32) :
    (outLoc d ↦[taskSet w]{fullShare} part A B w k : sProp 𝕄)
      ⊢ iprop((outLoc d ↦[winSet w (2 * k)]{fullShare} part A B w k) ∗ (outLoc d ↦[winSet w (2 * k + 1)]{fullShare} part A B w k)
          ∗ outLoc d ↦[restSet w k]{fullShare} part A B w k) := by
  iintro H
  ihave H := (pointsTo_split_subset (win_sub (w := w) (n := 2 * k) (by omega))).1 $$ H
  icases H with ⟨H0, H⟩
  ihave H := (pointsTo_split_subset (win_sub' (w := w) hk)).1 $$ H
  icases H with ⟨H1, H⟩
  isplitl [H0]; · iexact H0
  isplitl [H1] <;> iassumption

/-- The two windows, written, put back. -/
theorem rows_join {w k : ℕ} (hk : k < 32) :
    iprop((outLoc d ↦[winSet w (2 * k)]{fullShare} gath A) ∗ (outLoc d ↦[winSet w (2 * k + 1)]{fullShare} gath A)
        ∗ outLoc d ↦[restSet w k]{fullShare} part A B w k)
      ⊢ (outLoc d ↦[taskSet w]{fullShare} part A B w (k + 1) : sProp 𝕄) := by
  rw [pointsTo_congr (ℓ := outLoc d) (I := winSet w (2 * k)) (f := gath A) (g := part A B w (k + 1)) (fun x hx => by
      rw [mem_winSet] at hx; exact (if_pos (by omega)).symm),
    pointsTo_congr (ℓ := outLoc d) (I := winSet w (2 * k + 1)) (f := gath A) (g := part A B w (k + 1)) (fun x hx => by
      rw [mem_winSet] at hx; exact (if_pos (by omega)).symm),
    pointsTo_congr (ℓ := outLoc d) (I := restSet w k) (f := part A B w k) (g := part A B w (k + 1)) (fun x hx => by
      rw [Finset.mem_sdiff, Finset.mem_sdiff, mem_taskSet, mem_winSet, mem_winSet] at hx
      unfold part
      by_cases h : (x 0).val < 1024 * w + 32 * k
      · rw [if_pos h, if_pos (by omega)]
      · rw [if_neg h, if_neg (by omega)])]
  iintro ⟨H0, H1, H⟩
  iapply (pointsTo_split_subset (win_sub (w := w) (n := 2 * k) (by omega))).2
  isplitl [H0]; · iexact H0
  iapply (pointsTo_split_subset (win_sub' (w := w) hk)).2
  isplitl [H1] <;> iassumption

theorem part_zero (w : ℕ) : (outLoc d ↦[taskSet w]{fullShare} B : sProp 𝕄) = outLoc d ↦[taskSet w]{fullShare} part A B w 0 :=
  pointsTo_congr fun x hx => by rw [mem_taskSet] at hx; exact (if_neg (by omega)).symm

theorem part_all (w : ℕ) : (outLoc d ↦[taskSet w]{fullShare} part A B w 32 : sProp 𝕄) = outLoc d ↦[taskSet w]{fullShare} gath A :=
  pointsTo_congr fun x hx => by rw [mem_taskSet] at hx; exact if_pos (by omega)

end Rows

/-! ## The loop's invariant -/

section Tile

variable [FloatOps F] (d : Dev nD) (L : grid0.Coords) (A : S33216x2048.Idx → Elt F .f32) (B : S32768x2048.Idx → Elt F .f32)
  (q : PosShare TreeShare) (O : CellTallies nD τ sig (HIx 1)) (W : Waits sig (HIx 1))

/-- One buffer before trip `k`: a fetch of its next chunk under way, none after the last trip. -/
def Slot (buf : Memref sig .scVector .vmem S16x2048 .f32) (sem : DmaSem sig) (p : PosShare TreeShare) (r k : ℕ) : sProp 𝕄 :=
  if k < 32 then Fetching d (cV L) (jV L) A (wid L) buf sem p (2 * k + r) else Idle d (cV L) (jV L) A buf sem p

/-- Before trip `k`: both buffers' fetches under way, the result's rows done so far, both write semaphores at zero, no wait
    recorded beyond `W` but the kernel's own. -/
def inv (k : ℕ) (_ : Unit) : sProp 𝕄 :=
  iprop(Transfers.MayWaits (V d (cV L) (jV L)) (default : HIx 1) O
    ∗ Slot d L A b0V cc0_scratch2.sem q.left 0 k ∗ Slot d L A b1V cc0_scratch3.sem q.right 1 k
    ∗ (outLoc d ↦[taskSet (wid L)]{fullShare} part A B (wid L) k)
    ∗ semVal (V d (cV L) (jV L), .dma cc0_scratch4.sem) 0 ∗ semVal (V d (cV L) (jV L), .dma cc0_scratch5.sem) 0
    ∗ ∃ W', ⌜∀ p ∈ W', p ∈ W ∨ p.2 = none⌝ ∗ owes (V d (cV L) (jV L)) O W')

omit [FloatOps F] in
theorem waits_insert {W W' : Waits sig (HIx 1)} (h : ∀ p ∈ W', p ∈ W ∨ p.2 = none) (sm : SemLoc sig) :
    ∀ p ∈ insert (sm, (default : HIx 1)) W', p ∈ W ∨ p.2 = none := fun p hp => by
  rcases Finset.mem_insert.mp hp with rfl | hp
  · exact .inr rfl
  · exact h p hp

/-- The part of a trip every trip has: both fetches end, both chunks are set out to the result, the first write ends. -/
theorem wp_move (v1 : BitVec 32) (k : Fin k0_t1_loop.trips) {W' : Waits sig (HIx 1)} (hW' : ∀ p ∈ W', p ∈ W ∨ p.2 = none)
    {g0 g1 : S32768x2048.Idx → Elt F .f32} :
    iprop(Transfers.MayWaits (V d (cV L) (jV L)) (default : HIx 1) O
        ∗ Fetching d (cV L) (jV L) A (wid L) b0V cc0_scratch2.sem q.left (2 * k.val + 0)
        ∗ Fetching d (cV L) (jV L) A (wid L) b1V cc0_scratch3.sem q.right (2 * k.val + 1)
        ∗ (outLoc d ↦[winSet (wid L) (2 * k.val)]{fullShare} g0) ∗ (outLoc d ↦[winSet (wid L) (2 * k.val + 1)]{fullShare} g1)
        ∗ semVal (V d (cV L) (jV L), .dma cc0_scratch4.sem) 0 ∗ semVal (V d (cV L) (jV L), .dma cc0_scratch5.sem) 0
        ∗ owes (V d (cV L) (jV L)) O W')
      ⊢ wp frame (wpE (defs₀ (F := F)) 𝒱₀ (V d (cV L) (jV L)) none) Set.univ
          (k0_part1 L lgV (Memref.isWhole_whole _) outV (Memref.isWhole_whole _) b0V (Memref.isWhole_whole _) b1V (Memref.isWhole_whole _)
            cc0_scratch2 cc0_scratch3 cc0_scratch4 cc0_scratch5 v1 0#32 1#32 k)
          fun _ => iprop(Idle d (cV L) (jV L) A b0V cc0_scratch2.sem q.left
            ∗ (outLoc d ↦[winSet (wid L) (2 * k.val)]{fullShare} gath A)
            ∗ Transfers.Flight countersEmb (V d (cV L) (jV L)) (.dma cc0_scratch5.sem) (default : HIx 1) winCredit
                (Written d (cV L) (jV L) A (wid L) b1V (2 * k.val + 1))
            ∗ (lgLoc d ↦{q.right} A) ∗ semVal (V d (cV L) (jV L), .dma cc0_scratch3.sem) 0
            ∗ semVal (V d (cV L) (jV L), .dma cc0_scratch4.sem) 0
            ∗ ∃ W', ⌜∀ p ∈ W', p ∈ W ∨ p.2 = none⌝ ∗ owes (V d (cV L) (jV L)) O W') := by
  simp only [k0_part1_eq_skeleton, k0_part1_skel, Prog.lift, Prog.bind_op, Prog.bind_ret, Prog.pure_eq_ret]
  iintro ⟨#Hmw, Hr0, Hr1, Ho0, Ho1, Hw0, Hw1, HO⟩
  iapply (wp_fetched d (cV L) (jV L) A) $$ [Hr0 HO]
  · isplitl [Hr0]; · iexact Hr0
    isplitl [HO]; · iexact HO
    iexact Hmw
  iintro ⟨Hb0, Hl0, Hr0, HO⟩
  iapply (wp_put d (cV L) (jV L) A (off2_0 L k).1 (off2_0 L k).2) $$ [Hb0 Ho0 Hw0]
  · isplitl [Hb0]; · iexact Hb0
    isplitl [Ho0] <;> iassumption
  iintro Hf0
  iapply (wp_fetched d (cV L) (jV L) A) $$ [Hr1 HO]
  · isplitl [Hr1]; · iexact Hr1
    isplitl [HO]; · iexact HO
    iexact Hmw
  iintro ⟨Hb1, Hl1, Hr1, HO⟩
  iapply (wp_put d (cV L) (jV L) A (off2_1 L k).1 (off2_1 L k).2) $$ [Hb1 Ho1 Hw1]
  · isplitl [Hb1]; · iexact Hb1
    isplitl [Ho1] <;> iassumption
  iintro Hf1
  iapply (wp_written d (cV L) (jV L) A) $$ [Hf0 HO]
  · isplitl [Hf0]; · iexact Hf0
    isplitl [HO]; · iexact HO
    iexact Hmw
  unfold Written
  iintro ⟨⟨Ho0, Hb0⟩, Hw0, HO⟩
  rw [wp_ret]
  imodintro
  unfold Idle
  isplitl [Hb0 Hl0 Hr0]
  · isplitl [Hb0]; · iexact Hb0
    isplitl [Hl0] <;> iassumption
  isplitl [Ho0]; · iexact Ho0
  isplitl [Hf1]; · iexact Hf1
  isplitl [Hl1]; · iexact Hl1
  isplitl [Hr1]; · iexact Hr1
  isplitl [Hw0]; · iexact Hw0
  iexists _
  isplitr
  swap; · iexact HO
  ipureintro
  exact waits_insert (waits_insert (waits_insert hW' _) _) _

/-- The next fetch into the first buffer, on every trip but the last. -/
theorem wp_next0 (k : Fin k0_t1_loop.trips) {p : Prog (TpuEff nD τ sig (Elt F) Λ₀ (.scVector (cV L) (jV L))) Unit} {Q : Unit → sProp 𝕄} :
    Idle d (cV L) (jV L) A b0V cc0_scratch2.sem q.left
      ⊢ iprop((Slot d L A b0V cc0_scratch2.sem q.left 0 (k.val + 1) -∗ wp frame (wpE (defs₀ (F := F)) 𝒱₀ (V d (cV L) (jV L)) none) Set.univ p Q)
          -∗ wp frame (wpE (defs₀ (F := F)) 𝒱₀ (V d (cV L) (jV L)) none) Set.univ
          (if h : k0_cond1 k = 1#1 then
            (.op (.enqueueDma ((lgV).slice (Rect.unit (s := S33216x2048) (k0_off3 L k) S16x2048.size (k0_off3_inb L k h)) (fun _ => rfl)) (.here b0V)
              (.dma cc0_scratch2.sem) (View.wordExact_bits rfl) (Memref.isWhole_whole _).wordExact ⟨Or.inl rfl, trivial⟩) fun _ => p)
            else p) Q) := by
  have hk : k.val < 32 := lt_of_lt_of_eq k.isLt trips_eq
  by_cases h : k0_cond1 k = 1#1
  · have hl := (cond1 k).mp h
    rw [dif_pos h]
    unfold Slot
    rw [if_pos (by omega)]
    exact wp_fetch d (cV L) (jV L) A (n := 2 * (k.val + 1) + 0) (by omega) (inb := k0_off3_inb L k h) (k := fun _ => p) (off3 L k).1 (off3 L k).2
  · have hl : ¬ k.val < 31 := fun hl => h ((cond1 k).mpr hl)
    rw [dif_neg h]
    unfold Slot
    rw [if_neg (by omega)]
    iintro Hi Hk
    iapply Hk $$ Hi

/-- The next fetch into the second buffer, on every trip but the last. -/
theorem wp_next1 (k : Fin k0_t1_loop.trips) {p : Prog (TpuEff nD τ sig (Elt F) Λ₀ (.scVector (cV L) (jV L))) Unit} {Q : Unit → sProp 𝕄} :
    Idle d (cV L) (jV L) A b1V cc0_scratch3.sem q.right
      ⊢ iprop((Slot d L A b1V cc0_scratch3.sem q.right 1 (k.val + 1) -∗ wp frame (wpE (defs₀ (F := F)) 𝒱₀ (V d (cV L) (jV L)) none) Set.univ p Q)
          -∗ wp frame (wpE (defs₀ (F := F)) 𝒱₀ (V d (cV L) (jV L)) none) Set.univ
          (if h : k0_cond2 k = 1#1 then
            (.op (.enqueueDma ((lgV).slice (Rect.unit (s := S33216x2048) (k0_off4 L k) S16x2048.size (k0_off4_inb L k h)) (fun _ => rfl)) (.here b1V)
              (.dma cc0_scratch3.sem) (View.wordExact_bits rfl) (Memref.isWhole_whole _).wordExact ⟨Or.inl rfl, trivial⟩) fun _ => p)
            else p) Q) := by
  have hk : k.val < 32 := lt_of_lt_of_eq k.isLt trips_eq
  by_cases h : k0_cond2 k = 1#1
  · have hl := (cond2 k).mp h
    rw [dif_pos h]
    unfold Slot
    rw [if_pos (by omega)]
    exact wp_fetch d (cV L) (jV L) A (n := 2 * (k.val + 1) + 1) (by omega) (inb := k0_off4_inb L k h) (k := fun _ => p) (off4 L k).1 (off4 L k).2
  · have hl : ¬ k.val < 31 := fun hl => h ((cond2 k).mpr hl)
    rw [dif_neg h]
    unfold Slot
    rw [if_neg (by omega)]
    iintro Hi Hk
    iapply Hk $$ Hi

/-- The end of a trip: the first buffer's next fetch, the second write's end, the second buffer's next fetch. -/
theorem wp_trip (v1 : BitVec 32) (k : Fin k0_t1_loop.trips) (acc : Unit) :
    inv d L A B q O W k.val acc
      ⊢ wp frame (wpE (defs₀ (F := F)) 𝒱₀ (V d (cV L) (jV L)) none) Set.univ
          (k0_t1_body L lgV (Memref.isWhole_whole _) outV (Memref.isWhole_whole _) b0V (Memref.isWhole_whole _) b1V (Memref.isWhole_whole _)
            cc0_scratch2 cc0_scratch3 cc0_scratch4 cc0_scratch5 v1 k acc)
          (inv d L A B q O W (k.val + 1)) := by
  have hk : k.val < 32 := lt_of_lt_of_eq k.isLt trips_eq
  simp only [k0_t1_body, Prog.lift, Prog.bind_op, Prog.bind_ret, Prog.pure_eq_ret]
  unfold inv
  conv_lhs => unfold Slot
  rw [if_pos hk, if_pos hk]
  iintro ⟨#Hmw, Hr0, Hr1, Ho, Hw0, Hw1, %W', %hW', HO⟩
  ihave Ho := (rows_split d A B (w := wid L) hk) $$ Ho
  icases Ho with ⟨Ho0, Ho1, Hrest⟩
  rw [wp_bind]
  iapply wp_wand $$ [Hr0 Hr1 Ho0 Ho1 Hw0 Hw1 HO]
  · iapply (wp_move d L A q O W v1 k hW')
    isplitr; · iexact Hmw
    isplitl [Hr0]; · iexact Hr0
    isplitl [Hr1]; · iexact Hr1
    isplitl [Ho0]; · iexact Ho0
    isplitl [Ho1]; · iexact Ho1
    isplitl [Hw0]; · iexact Hw0
    isplitl [Hw1]; · iexact Hw1
    iexact HO
  iintro %r ⟨Hi0, Ho0, Hf1, Hl1, Hr1, Hw0, %W'', %hW'', HO⟩
  iapply (wp_next0 d L A q k) $$ Hi0
  iintro Hs0
  iapply (wp_written d (cV L) (jV L) A) $$ [Hf1 HO]
  · isplitl [Hf1]; · iexact Hf1
    isplitl [HO]; · iexact HO
    iexact Hmw
  unfold Written
  iintro ⟨⟨Ho1, Hb1⟩, Hw1, HO⟩
  iapply (wp_next1 d L A q k) $$ [Hb1 Hl1 Hr1]
  · unfold Idle
    isplitl [Hb1]; · iexact Hb1
    isplitl [Hl1] <;> iassumption
  iintro Hs1
  rw [wp_ret]
  imodintro
  isplitr; · iexact Hmw
  isplitl [Hs0]; · iexact Hs0
  isplitl [Hs1]; · iexact Hs1
  isplitl [Ho0 Ho1 Hrest]
  · iapply (rows_join d A B (w := wid L) hk)
    isplitl [Ho0]; · iexact Ho0
    isplitl [Ho1] <;> iassumption
  isplitl [Hw0]; · iexact Hw0
  isplitl [Hw1]; · iexact Hw1
  iexists _
  isplitr
  swap; · iexact HO
  ipureintro
  exact waits_insert hW'' _

/-! ## The task -/

abbrev r0cell (d : Dev nD) (c : Fin τ.nSC) (i : Fin τ.nSub) : GSem nD τ sig := (V d c i, .dma cc0_scratch2.sem)
abbrev r1cell (d : Dev nD) (c : Fin τ.nSC) (i : Fin τ.nSub) : GSem nD τ sig := (V d c i, .dma cc0_scratch3.sem)
abbrev w0cell (d : Dev nD) (c : Fin τ.nSC) (i : Fin τ.nSub) : GSem nD τ sig := (V d c i, .dma cc0_scratch4.sem)
abbrev w1cell (d : Dev nD) (c : Fin τ.nSC) (i : Fin τ.nSub) : GSem nD τ sig := (V d c i, .dma cc0_scratch5.sem)

omit [FloatOps F] in
/-- The tile's semaphores are the kernel's four and the rest. -/
theorem ownSems0_V (c : Fin τ.nSC) (i : Fin τ.nSub) :
    (ownSems0 (V d c i) : sProp 𝕄)
      = iprop(semVal (r0cell d c i) 0 ∗ semVal (r1cell d c i) 0 ∗ semVal (w0cell d c i) 0 ∗ semVal (w1cell d c i) 0
          ∗ bigSep (((((ownCells (V d c i)).erase (r0cell d c i)).erase (r1cell d c i)).erase (w0cell d c i)).erase (w1cell d c i)) fun g => semVal g 0) := by
  have hne : ∀ x y : DmaSem sig, x ≠ y → ((V d c i, SemLoc.dma x) : GSem nD τ sig) ≠ (V d c i, SemLoc.dma y) := fun x y h e =>
    h (SemLoc.dma.inj (Prod.mk.inj e).2)
  unfold SparseCore.Cfg.ownSems0
  rw [SparseCore.bigSep_erase' ((mem_ownCells (g := r0cell d c i)).mpr ⟨rfl, by
      show (SemLoc.dma cc0_scratch2.sem : SemLoc sig).isScoped .scVector = true; decide⟩),
    SparseCore.bigSep_erase' (Finset.mem_erase.mpr ⟨hne _ _ (by decide), (mem_ownCells (g := r1cell d c i)).mpr ⟨rfl, by
      show (SemLoc.dma cc0_scratch3.sem : SemLoc sig).isScoped .scVector = true; decide⟩⟩),
    SparseCore.bigSep_erase' (Finset.mem_erase.mpr ⟨hne _ _ (by decide), Finset.mem_erase.mpr ⟨hne _ _ (by decide),
      (mem_ownCells (g := w0cell d c i)).mpr ⟨rfl, by show (SemLoc.dma cc0_scratch4.sem : SemLoc sig).isScoped .scVector = true; decide⟩⟩⟩),
    SparseCore.bigSep_erase' (Finset.mem_erase.mpr ⟨hne _ _ (by decide), Finset.mem_erase.mpr ⟨hne _ _ (by decide), Finset.mem_erase.mpr ⟨hne _ _ (by decide),
      (mem_ownCells (g := w1cell d c i)).mpr ⟨rfl, by show (SemLoc.dma cc0_scratch5.sem : SemLoc sig).isScoped .scVector = true; decide⟩⟩⟩⟩)]

omit [FloatOps F] in
/-- The tile's buffers are the kernel's two, at some contents, and the rest. -/
theorem ownBufs_V (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ bigSep (((ownRefs (τ := τ) (.scVector c i)).erase ((Proc.scVector c i).devRef cc0_scratch0)).erase ((Proc.scVector c i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩)]

omit [FloatOps F] in
theorem pts_b0 (c : Fin τ.nSC) (i : Fin τ.nSub) (f : Buf (Elt F) ((V d c i).loc cc0_scratch0)) :
    ((b0V).view.loc (V d c i) ↦[(b0V).view.set]{fullShare} f : sProp 𝕄) = (V d c i).loc cc0_scratch0 ↦{fullShare} f := by
  rw [show (b0V).view.set = Finset.univ from View.set_whole _]
omit [FloatOps F] in
theorem pts_b1 (c : Fin τ.nSC) (i : Fin τ.nSub) (f : Buf (Elt F) ((V d c i).loc cc0_scratch1)) :
    ((b1V).view.loc (V d c i) ↦[(b1V).view.set]{fullShare} f : sProp 𝕄) = (V d c i).loc cc0_scratch1 ↦{fullShare} f := by
  rw [show (b1V).view.set = Finset.univ from View.set_whole _]

omit [FloatOps F] in
/-- What a tile is handed, with its share of the logits halved between the two buffers. -/
theorem lg_halves : (lgLoc d ↦{q} A : sProp 𝕄) ⊣⊢ iprop((lgLoc d ↦{q.left} A) ∗ lgLoc d ↦{q.right} A) :=
  pointsTo_share (PosShare.mem_left_op_right q)

/-- All the trips. -/
theorem wp_trips (v1 : BitVec 32) :
    inv d L A B q O W 0 ()
      ⊢ wp frame (wpE (defs₀ (F := F)) 𝒱₀ (V d (cV L) (jV L)) none) Set.univ
          (Scf.Loop.for k0_t1_loop k0_t1_ok ⟨⟩ (k0_t1_body L lgV (Memref.isWhole_whole _) outV (Memref.isWhole_whole _) b0V (Memref.isWhole_whole _)
            b1V (Memref.isWhole_whole _) cc0_scratch2 cc0_scratch3 cc0_scratch4 cc0_scratch5 v1))
          (inv d L A B q O W 32) := by
  refine BI.Entails.trans ?_ (Scf.wp_for (M := 𝕄) frame (wpE (defs₀ (F := F)) 𝒱₀ (V d (cV L) (jV L)) none) Set.univ
    k0_t1_loop.lb k0_t1_loop.ub k0_t1_loop.st k0_t1_ok ⟨⟩ _ (inv d L A B q O W) (wp_trip d L A B q O W v1))
  have e : Scf.trips k0_t1_loop.lb k0_t1_loop.ub k0_t1_loop.st = 32 := trips_eq
  rw [e]
  show inv d L A B q O W 0 () ⊢ iprop(inv d L A B q O W 0 () ∗ ∀ acc, inv d L A B q O W 32 acc -∗ inv d L A B q O W 32 acc)
  iintro H
  isplitl [H]; · iexact H
  iintro %acc HI
  iexact HI

/-- The kernel on tile `L`: from a share of the logits and the task's rows of the result, to the same share and those rows
    at the gathered logits. -/
theorem tile_body (hO : ∀ g, O g none = 0) :
    (iprop(levAts (K (F := F)).L (K (F := F)).lev ∗ emp
        ∗ ((lgLoc d ↦{q} A) ∗ outLoc d ↦[taskSet (wid L)]{fullShare} B)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_copy_body L lgV (Memref.isWhole_whole _) outV (Memref.isWhole_whole _) b0V (Memref.isWhole_whole _) b1V (Memref.isWhole_whole _)
            cc0_scratch2 cc0_scratch3 cc0_scratch4 cc0_scratch5)
          fun _ => iprop(((lgLoc d ↦{q} A) ∗ outLoc d ↦[taskSet (wid L)]{fullShare} gath A)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_copy_body_eq_skeleton, cc0__sc_copy_body_skel, Prog.lift, Prog.bind_op, Prog.bind_ret, Prog.pure_eq_ret]
  rw [(K (F := F)).scopedBufs_V facts d (cV L) (jV L), SparseCore.Cfg.scopedSems0_V (Val := Elt F) d (cV L) (jV L), ownSems0_V, ownBufs_V]
  iintro ⟨#Hlv, -, ⟨Hl, Ho⟩, ⟨⟨%f0, Hb0⟩, ⟨%f1, Hb1⟩, Hbufs⟩, ⟨Hr0, Hr1, Hw0, Hw1, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hl := (lg_halves d A q).1 $$ Hl
  icases Hl with ⟨Hl0, Hl1⟩
  ihave Hb0 := (Entails.of_eq (pts_b0 (F := F) d _ _ _).symm) $$ Hb0
  ihave Hb1 := (Entails.of_eq (pts_b1 (F := F) d _ _ _).symm) $$ Hb1
  ihave Hi0 := (show iprop((∃ f, (b0V).view.loc (V d (cV L) (jV L)) ↦[(b0V).view.set]{fullShare} f) ∗ (lgLoc d ↦{q.left} A)
      ∗ semVal (V d (cV L) (jV L), .dma cc0_scratch2.sem) 0) ⊢ Idle d (cV L) (jV L) A b0V cc0_scratch2.sem q.left from BI.Entails.refl _) $$ [Hb0 Hl0 Hr0]
  · isplitl [Hb0]; · iexists _; iexact Hb0
    isplitl [Hl0] <;> iassumption
  ihave Hi1 := (show iprop((∃ f, (b1V).view.loc (V d (cV L) (jV L)) ↦[(b1V).view.set]{fullShare} f) ∗ (lgLoc d ↦{q.right} A)
      ∗ semVal (V d (cV L) (jV L), .dma cc0_scratch3.sem) 0) ⊢ Idle d (cV L) (jV L) A b1V cc0_scratch3.sem q.right from BI.Entails.refl _) $$ [Hb1 Hl1 Hr1]
  · isplitl [Hb1]; · iexists _; iexact Hb1
    isplitl [Hl1] <;> iassumption
  iapply (wp_fetch d (cV L) (jV L) A (n := 0) (by omega) (off1_0 L).1 (off1_0 L).2) $$ Hi0
  iintro Hr0
  iapply (wp_fetch d (cV L) (jV L) A (n := 1) (by omega) (off1_1 L).1 (off1_1 L).2) $$ Hi1
  iintro Hr1
  ihave Ho := (Entails.of_eq (part_zero d A B (wid L))) $$ Ho
  rw [wp_bind]
  iapply wp_wand $$ [Hmw Hr0 Hr1 Ho Hw0 Hw1 HO]
  · iapply (wp_trips d L A B q O W _)
    unfold inv Slot
    rw [if_pos (show 0 < 32 by omega), if_pos (show 0 < 32 by omega)]
    isplitl [Hmw]; · iexact Hmw
    isplitl [Hr0]; · iexact Hr0
    isplitl [Hr1]; · iexact Hr1
    isplitl [Ho]; · iexact Ho
    isplitl [Hw0]; · iexact Hw0
    isplitl [Hw1]; · iexact Hw1
    iexists W
    isplitr
    · ipureintro; exact fun p hp => .inl hp
    iexact HO
  iintro %acc HI
  rw [wp_ret]
  imodintro
  unfold inv Slot Idle
  rw [if_neg (show ¬ 32 < 32 by omega), if_neg (show ¬ 32 < 32 by omega)]
  icases HI with ⟨-, ⟨⟨%g0, Hb0⟩, Hl0, Hr0⟩, ⟨⟨%g1, Hb1⟩, Hl1, Hr1⟩, Ho, Hw0, Hw1, HO⟩
  isplitl [Hl0 Hl1 Ho]
  · isplitl [Hl0 Hl1]
    · iapply (lg_halves d A q).2
      isplitl [Hl0] <;> iassumption
    iapply (Entails.of_eq (part_all d A B (wid L))) $$ Ho
  isplitl [Hb0 Hb1 Hbufs]
  · isplitl [Hb0]; · iexists _; iapply (Entails.of_eq (pts_b0 (F := F) d _ _ _)) $$ Hb0
    isplitl [Hb1]; · iexists _; iapply (Entails.of_eq (pts_b1 (F := F) d _ _ _)) $$ Hb1
    iexact Hbufs
  isplitl [Hr0 Hr1 Hw0 Hw1 Hsems]
  · isplitl [Hr0]; · iexact Hr0
    isplitl [Hr1]; · iexact Hr1
    isplitl [Hw0]; · iexact Hw0
    isplitl [Hw1]; · iexact Hw1
    iexact Hsems
  iexact HO

end Tile

end Cert.Proof.Run

end
-- ==== Proof.Split.lean ====
/-
  What the SparseCore call is handed and hands back, and how it is dealt: to each SparseCore a read share of the logits
  and its rows of the result, to each of its tiles a part of that share and the tile's own rows.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

local notation "𝕄" => MT nD τ sig (HIx 1) (Elt F) ℕ UU ℕ

/-! ## What is handed over -/

/-- SparseCore `c`'s share of the logits, and tile `s`'s part of it. -/
abbrev coreShare (c : Fin 2) : PosShare TreeShare := shareTok fullShare 2 c
abbrev tileShare (c : Fin 2) (s : Fin 16) : PosShare TreeShare := shareTok (coreShare c) 16 s

variable (A : Dev nD → S33216x2048.Idx → Elt F .f32) (B : Dev nD → S32768x2048.Idx → Elt F .f32)

/-- SparseCore `c`'s part: a share of the logits `A` and its rows of the result at `f`. -/
def corePart (d : Dev nD) (f : S32768x2048.Idx → Elt F .f32) (c : Fin 2) : sProp 𝕄 :=
  iprop((lgLoc d ↦{coreShare c} A d) ∗ outLoc d ↦[coreSet c]{fullShare} f)
/-- Tile `s` of SparseCore `c`'s part of that. -/
def tilePart (d : Dev nD) (f : S32768x2048.Idx → Elt F .f32) (c : Fin 2) (s : Fin 16) : sProp 𝕄 :=
  iprop((lgLoc d ↦{tileShare c s} A d) ∗ outLoc d ↦[tileSet c s]{fullShare} f)

instance (d : Dev nD) (f : S32768x2048.Idx → Elt F .f32) (c : Fin 2) : BI.Storable (upEmb : UEmb _ 𝕄) (corePart A d f c) := by
  unfold corePart; infer_instance
instance (d : Dev nD) (f : S32768x2048.Idx → Elt F .f32) (c : Fin 2) (s : Fin 16) : BI.Storable (upEmb : UEmb _ 𝕄) (tilePart A d f c s) := by
  unfold tilePart; infer_instance

/-- The call's payloads: every SparseCore and tile takes its part of the result at its contents before and gives it back
    at the gathered logits. -/
def P : (K (F := F)).Pay (nD := nD) (Val := Elt F) (Name := ℕ) (U := UU) where
  st := fun q d c => match q with | 0 => corePart A d (B d) (Fin.cast nCore_zero c)
  dn := fun q d c => match q with | 0 => corePart A d (gath (A d)) (Fin.cast nCore_zero c)
  go := fun q d c i => match q with | 0 => tilePart A d (B d) (Fin.cast nCore_zero c) (Fin.cast nSub_zero i)
  td := fun q d c i => match q with | 0 => tilePart A d (gath (A d)) (Fin.cast nCore_zero c) (Fin.cast nSub_zero i)
  x := fun _ _ => iprop(emp)

instance P_storable : (P A B).IsStorable where
  st q d _ := match q with | 0 => (inferInstance : BI.Storable (upEmb : UEmb _ 𝕄) (corePart A d (B d) _))
  dn q d _ := match q with | 0 => (inferInstance : BI.Storable (upEmb : UEmb _ 𝕄) (corePart A d (gath (A d)) _))
  go q d _ _ := match q with | 0 => (inferInstance : BI.Storable (upEmb : UEmb _ 𝕄) (tilePart A d (B d) _ _))
  td q d _ _ := match q with | 0 => (inferInstance : BI.Storable (upEmb : UEmb _ 𝕄) (tilePart A d (gath (A d)) _ _))

/-! ## A SparseCore's part dealt to its tiles -/

theorem rows_tiles (d : Dev nD) (c : Fin 2) (f : S32768x2048.Idx → Elt F .f32) :
    (outLoc d ↦[coreSet c]{fullShare} f : sProp 𝕄) = bigSep Finset.univ fun s : Fin 16 => outLoc d ↦[tileSet c s]{fullShare} f := by
  rw [← tiles_cover c]
  exact pointsTo_biUnion Finset.univ (ℓ := outLoc d) (tileSet c) (tiles_disjoint c)

theorem rows_cores (d : Dev nD) (f : S32768x2048.Idx → Elt F .f32) :
    (outLoc d ↦{fullShare} f : sProp 𝕄) = bigSep Finset.univ fun c : Fin 2 => outLoc d ↦[coreSet c]{fullShare} f := by
  rw [← pointsTo_biUnion Finset.univ (ℓ := outLoc d) coreSet cores_disjoint, cores_cover]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its tiles', what is left of its share kept until they give theirs back. -/
theorem core_deal (d : Dev nD) (f g : S32768x2048.Idx → Elt F .f32) (c : Fin 2) :
    corePart A d f c ⊢ iprop((bigSep Finset.univ fun s : Fin 16 => tilePart A d f c s)
      ∗ ((bigSep Finset.univ fun s : Fin 16 => tilePart A d g c s) -∗ corePart A d g c)) := by
  unfold corePart tilePart
  rw [bigSep_sep', bigSep_sep', rows_tiles, rows_tiles]
  iintro ⟨Hl, Ho⟩
  ihave Hl := (Transfers.pointsTo_toks (coreShare c) 16).1 $$ Hl
  icases Hl with ⟨Hd, Hl⟩
  isplitl [Hl Ho]
  · isplitl [Hl]; · iexact Hl
    iexact Ho
  iintro ⟨Hl, Ho⟩
  isplitr [Ho]
  · iapply (Transfers.pointsTo_toks (coreShare c) 16).2
    isplitl [Hd] <;> iassumption
  iexact Ho

/-- The whole arrays are the two SparseCores' parts, what is left of the logits' share kept until they give theirs back. -/
theorem call_deal (d : Dev nD) (f g : S32768x2048.Idx → Elt F .f32) :
    iprop((lgLoc d ↦{fullShare} A d) ∗ outLoc d ↦{fullShare} f)
      ⊢ iprop((bigSep Finset.univ fun c : Fin 2 => corePart A d f c)
        ∗ ((bigSep Finset.univ fun c : Fin 2 => corePart A d g c) -∗ iprop((lgLoc d ↦{fullShare} A d) ∗ outLoc d ↦{fullShare} g))) := by
  unfold corePart
  rw [bigSep_sep', bigSep_sep', rows_cores, rows_cores]
  iintro ⟨Hl, Ho⟩
  ihave Hl := (Transfers.pointsTo_toks fullShare 2).1 $$ Hl
  icases Hl with ⟨Hd, Hl⟩
  isplitl [Hl Ho]
  · isplitl [Hl]; · iexact Hl
    iexact Ho
  iintro ⟨Hl, Ho⟩
  isplitr [Ho]
  · iapply (Transfers.pointsTo_toks fullShare 2).2
    isplitl [Hd] <;> iassumption
  iexact Ho

theorem vecSplit : (K (F := F)).VecSplit' (P A B) 0 := by
  intro d c
  show corePart A d (B d) (Fin.cast nCore_zero c) ⊢ |={Set.univ}=> iprop(
      (bigSep Finset.univ fun i : Fin ((K (F := F)).nSub 0) => tilePart A d (B d) (Fin.cast nCore_zero c) (Fin.cast nSub_zero i))
      ∗ ((bigSep Finset.univ fun i : Fin ((K (F := F)).nSub 0) => tilePart A d (gath (A d)) (Fin.cast nCore_zero c) (Fin.cast nSub_zero i))
          -∗ corePart A d (gath (A d)) (Fin.cast nCore_zero c)))
  rw [bigSep_tasks (F := F) (fun i => tilePart A d (B d) (Fin.cast nCore_zero c) i),
    bigSep_tasks (F := F) (fun i => tilePart A d (gath (A d)) (Fin.cast nCore_zero c) i)]
  iintro H
  imodintro
  iapply (core_deal A d (B d) (gath (A d)) (Fin.cast nCore_zero c)) $$ H

/-! ## The obligation of a tile -/

section Obligation

variable [FloatOps F]

/-- The grid's coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_copy_body (coordsV c s)
          lgV (Memref.isWhole_whole _) outV (Memref.isWhole_whole _) b0V (Memref.isWhole_whole _) b1V (Memref.isWhole_whole _)
          cc0_scratch2 cc0_scratch3 cc0_scratch4 cc0_scratch5) ⟨⟩ c s := rfl

omit [FloatOps F] in
/-- A wait recorded under no call's index is one recorded under no call's or under this one's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation. -/
theorem tileObl : (K (F := F)).TileObl (D (F := F)) 𝒱 (P A B) v₀ 0 := by
  intro d c i O W hO _ _
  simp only [show (P A B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (A d) (B d) (tileShare (Fin.cast nCore_zero c) (Fin.cast nSub_zero i)) O W hO).trans
    (wp_mono frame _ _ fun _ => obl_post)

end Obligation

end Cert.Proof.Run

end
-- ==== Proof.Main.lean ====
/-
  The kernel's run: from any launch memory every schedule ends with the four results at their closed forms.
-/
module

public import proofs.«01_k».proof.Proof.Host
public import proofs.«01_k».proof.Proof.Region
public import proofs.«01_k».proof.Proof.Split

@[expose] public section

noncomputable section

namespace Cert.Proof.Run

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The results -/

/-- The other arrays of @main, on device `d`. -/
abbrev liLoc (d : Dev nD) : Loc nD τ sig := (SparseCore.T d).loc main_arg1
abbrev smLoc (d : Dev nD) : Loc nD τ sig := (SparseCore.T d).loc main_c
abbrev loLoc (d : Dev nD) : Loc nD τ sig := (SparseCore.T d).loc main_v2
abbrev trLoc (d : Dev nD) : Loc nD τ sig := (SparseCore.T d).loc main_c_0
abbrev lmLoc (d : Dev nD) : Loc nD τ sig := (SparseCore.T d).loc main_v4

/-- The logits as rows of 2048, a row per batch, codebook and step. -/
def rowsOf (L : S8x8x519x2048.Idx → Elt F .f32) : S33216x2048.Idx → Elt F .f32 :=
  shapeCast S33216x2048 L shapeCasts_S8x8x519x2048_S33216x2048

/-- The reverted logits: the rows the tiles gather, in the result's shape. -/
def logitsOf (L : S8x8x519x2048.Idx → Elt F .f32) : S8x8x512x2048.Idx → Elt F .f32 :=
  shapeCast S8x8x512x2048 (gath (rowsOf L)) shapeCasts_S32768x2048_S8x8x512x2048

/-- The mask of the delayed prompt. -/
def seqMask : S8x520.Idx → BitVec 1 := fun i => lit0 (S8x520.rowMajor i)

/-- The one word, all ones, and the mask of the reverted logits. -/
def trueWord : S_.Idx → BitVec 1 := constantI S_ 1 1#1
def logMask : S8x8x512.Idx → BitVec 1 := broadcastInDim S8x8x512 ![] bcast_S_S8x8x512 trueWord

section Run

variable (m : (ℓ : Loc nD τ sig) → Buf (Elt F) ℓ) (ρ : Dev nD → PrngReg)

/-- What the launch memory gives the kernels: the prompt, the logits' rows, and what the results' arrays hold. -/
def X0 (d : Dev nD) : S8x8x512.Idx → Elt F .i32 := m (prLoc d)
def A0 (d : Dev nD) : S33216x2048.Idx → Elt F .f32 := rowsOf (m (liLoc d))
def B0 (d : Dev nD) : S32768x2048.Idx → Elt F .f32 := m (outLoc d)
def Y0 (d : Dev nD) : S8x8x520.Idx → Elt F .i32 := m (vaLoc d)

/-! ## The launch element of the certificate's ghost state -/

def u₀ : UU := (initOf (K (F := F)).hsCells (K (F := F)).hsToks,
  initOf (Pipeline.cells cfgs cellOf_inj) (Pipeline.launchToks cfgs cellOf_inj), 1)

/-- What the launch deals the TensorCore's pipeline. -/
def GHOST (d : Dev nD) : sProp 𝕄 :=
  iprop(Pipeline.cellsGhost cfgs (EP (F := F)) 0 d ∗ Pipeline.toksInit cfgs (EP (F := F)) 0 d)

theorem hu₀ : (ownU (u₀ (F := F)) : sProp 𝕄)
    ⊢ |={Set.univ}=> iprop(BI.own (EH (initOf (K (F := F)).hsCells (K (F := F)).hsToks)) ∗ (bigSep Finset.univ fun d : Dev nD => GHOST (F := F) d)
        ∗ bigSep Finset.univ fun thr : Thread nD τ => bigSep Finset.univ fun q : Fin 1 => (P (A0 m) (B0 m)).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb (embR : Emb (UP × Counters) 𝕄) (initOf (Pipeline.cells cfgs cellOf_inj) (Pipeline.launchToks cfgs cellOf_inj)) (1 : Counters)) $$ HR
  icases H with ⟨HP, -⟩
  ihave HP' := (show (BI.own (((Emb.inl : Emb UP (UP × Counters)).trans embR) (initOf (Pipeline.cells cfgs cellOf_inj) (Pipeline.launchToks cfgs cellOf_inj))) : sProp 𝕄)
    ⊢ BI.own (EP (F := F) (initOf (Pipeline.cells cfgs cellOf_inj) (Pipeline.launchToks cfgs cellOf_inj))) from Entails.of_eq rfl) $$ HP
  imod (Pipeline.fund_ghost cfgs (EP (F := F)) cellOf_inj) $$ HP' with ⟨Hg, Ht⟩
  imodintro
  isplitl [HH]; · iexact HH
  isplitl [Hg Ht]
  · unfold GHOST
    rw [bigSep_sep']
    isplitl [Hg]
    · rw [show (bigSep Finset.univ fun d : Dev nD => Pipeline.cellsGhost cfgs (EP (F := F)) 0 d)
        = bigSep Finset.univ fun d : Dev nD => bigSep Finset.univ fun p => Pipeline.cellsGhost cfgs (EP (F := F)) p d from
        bigSep_congr fun d _ => (bigSep_univ_of_subsingleton (Φ := fun p : Fin 1 => Pipeline.cellsGhost cfgs (EP (F := F)) p d) (0 : Fin 1)).symm]
      iexact Hg
    · rw [show (bigSep Finset.univ fun d : Dev nD => Pipeline.toksInit cfgs (EP (F := F)) 0 d)
        = bigSep Finset.univ fun d : Dev nD => bigSep Finset.univ fun p => Pipeline.toksInit cfgs (EP (F := F)) p d from
        bigSep_congr fun d _ => (bigSep_univ_of_subsingleton (Φ := fun p : Fin 1 => Pipeline.toksInit cfgs (EP (F := F)) p d) (0 : Fin 1)).symm]
      iexact Ht
  rw [show (bigSep Finset.univ fun thr : Thread nD τ => bigSep Finset.univ fun q : Fin 1 => (P (F := F) (A0 m) (B0 m)).x q thr) = bigSep Finset.univ fun _ => (BI.emp : sProp 𝕄) from
    bigSep_congr fun _ _ => bigSep_univ_of_subsingleton (0 : Fin 1), bigSep_emp_const]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((prLoc d ↦{fullShare} W main_arg0) ∗ (liLoc d ↦{fullShare} W main_arg1) ∗ (smLoc d ↦{fullShare} W main_c)
      ∗ (lgLoc d ↦{fullShare} W main_v0) ∗ (outLoc d ↦{fullShare} W main_v1) ∗ (loLoc d ↦{fullShare} W main_v2) ∗ (vaLoc d ↦{fullShare} W main_v3)
      ∗ (trLoc d ↦{fullShare} W main_c_0) ∗ (lmLoc d ↦{fullShare} W main_v4)) := by
  unfold unscopedBufs
  rw [show (Finset.univ.filter fun b : Ref sig .tc => ¬ b.isScoped)
      = {main_arg0, main_arg1, main_c, main_v0, main_v1, main_v2, main_v3, main_c_0, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- After the SparseCore call the TensorCore owes nothing; the rest of what it holds between calls. -/
theorem tcSt_one (d : Dev nD) : ∃ R : sProp 𝕄, (K (F := F)).tcSt EH d 1
    = iprop((∃ W, ⌜(K (F := F)).WBelow (SparseCore.T d) W (8 * 1)⌝ ∗ owes (SparseCore.T d) 0 W) ∗ R) :=
  ⟨_, by unfold SparseCore.Cfg.tcSt; rw [(K (F := F)).Otc_end d le_rfl]; rfl⟩

/-- The call's parts, over the two SparseCores. -/
theorem st_eq (d : Dev nD) : (bigSep Finset.univ fun c : Fin ((K (F := F)).nCore 0) => (P (A0 m) (B0 m)).st 0 d c)
    = bigSep Finset.univ fun c : Fin 2 => corePart (A0 m) d (B0 m d) c :=
  bigSep_cores (F := F) (fun c => corePart (A0 m) d (B0 m d) c)
theorem dn_eq (d : Dev nD) : (bigSep Finset.univ fun c : Fin ((K (F := F)).nCore 0) => (P (A0 m) (B0 m)).dn 0 d c)
    = bigSep Finset.univ fun c : Fin 2 => corePart (A0 m) d (gath (A0 m d)) c :=
  bigSep_cores (F := F) (fun c => corePart (A0 m) d (gath (A0 m d)) c)

/-- What @main leaves the claims. -/
abbrev FIN (d : Dev nD) : sProp 𝕄 :=
  iprop((prLoc d ↦{fullShare} m (prLoc d)) ∗ (liLoc d ↦{fullShare} m (liLoc d)) ∗ (smLoc d ↦{fullShare} seqMask)
    ∗ (loLoc d ↦{fullShare} logitsOf (m (liLoc d))) ∗ (vaLoc d ↦{fullShare} valuesOf (m (prLoc d))) ∗ (lmLoc d ↦{fullShare} logMask))

theorem hmain [∀ e, Nonempty (Elt F e)] (κ : GSem nD τ sig → ℕ) (d : Dev nD) :
    iprop((K (F := F)).ctx EH (P (A0 m) (B0 m)) κ ∗ (K (F := F)).tcSt EH d 0 ∗ (K (F := F)).tcRes m ρ d ∗ GHOST (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  unfold SparseCore.Cfg.tcRes SparseCore.Cfg.tcEnd GHOST
  rw [unscopedBufs_eq]
  simp only [main, wp_bind, wp_pure]
  iintro ⟨#Hctx, Hst, ⟨Hb, ⟨Hpr, Hli, Hsm, Hlg, Hout, Hlo, Hva, Htr, Hlm⟩, Hts, -⟩, Hcg, Htk⟩
  ihave Hlev := (SparseCore.Cfg.ctx_levAts κ) $$ Hctx
  -- the mask, and the logits as rows
  iapply (wp_one d _ main_c rfl rfl (fun b => m (d, b)) _ seqMask (fun V => StableHlo.nullary_result _ _ _ V)) $$ [Hb Hsm]
  · isplitl [Hb]; · iexact Hb
    iexact Hsm
  iintro ⟨Hb, Hsm⟩
  iapply (wp_two d _ main_arg1 main_v0 (by decide) rfl rfl rfl (fun b => m (d, b)) (m (liLoc d)) _ (A0 m d)
    (fun V hV => by rw [StableHlo.reshape_result, hV]; rfl)) $$ [Hb Hli Hlg]
  · isplitl [Hb]; · iexact Hb
    isplitl [Hli]; · iexact Hli
    iexact Hlg
  iintro ⟨Hb, Hli, Hlg⟩
  -- the SparseCore call
  ihave Hdeal := (call_deal (A0 m) d (B0 m d) (gath (A0 m d))) $$ [Hlg Hout]
  · isplitl [Hlg]; · iexact Hlg
    iexact Hout
  icases Hdeal with ⟨Hparts, Hback⟩
  iapply ((K (F := F)).wp_run (D (F := F)) 𝒱 (EH := EH) (P := P (A0 m) (B0 m)) κ d 0)
  isplitr; · iexact Hctx
  isplitl [Hst]; · iexact Hst
  isplitl [Hparts]
  · iapply (Entails.of_eq (st_eq m d).symm)
    iexact Hparts
  iintro ⟨Hst, Hdn⟩
  ihave Hdn' := (Entails.of_eq (dn_eq m d)) $$ Hdn
  ihave H := Hback $$ Hdn'
  icases H with ⟨Hlg, Hout⟩
  -- the result's shape
  iapply (wp_two d _ main_v1 main_v2 (by decide) rfl rfl rfl (fun b => m (d, b)) (gath (A0 m d)) _ (logitsOf (m (liLoc d)))
    (fun V hV => by rw [StableHlo.reshape_result, hV]; rfl)) $$ [Hb Hout Hlo]
  · isplitl [Hb]; · iexact Hb
    isplitl [Hout]; · iexact Hout
    iexact Hlo
  iintro ⟨Hb, Hout, Hlo⟩
  -- the TensorCore kernel
  ihave Hst := (show (K (F := F)).tcSt EH d ((0 : Fin 1).val + 1) ⊢ _ from Entails.of_eq hR) $$ Hst
  icases Hst with ⟨HO, HR⟩
  iapply (wp_values (X0 m) (Y0 m) (8 * 1) d)
  isplitr [Hb Hpr Hva HO Hcg Htk]
  rotate_left
  · isplitl [Hb]; · iexact Hb
    isplitl [Hpr Hva HO]
    · isplitl [Hpr]; · iexact Hpr
      isplitl [Hva]; · iexact Hva
      iexact HO
    isplitr; · iexact Hlev
    isplitl [Hcg]; · iexact Hcg
    iexact Htk
  iintro ⟨Hb, Hpr, Hva, HO⟩
  -- the mask of the reverted logits
  iapply (wp_one d _ main_c_0 rfl rfl (fun b => m (d, b)) _ trueWord (fun V => StableHlo.nullary_result _ _ _ V)) $$ [Hb Htr]
  · isplitl [Hb]; · iexact Hb
    iexact Htr
  iintro ⟨Hb, Htr⟩
  iapply (wp_two d _ main_c_0 main_v4 (by decide) rfl rfl rfl (fun b => m (d, b)) trueWord _ logMask
    (fun V hV => by rw [StableHlo.unary_result, hV]; rfl)) $$ [Hb Htr Hlm]
  · isplitl [Hb]; · iexact Hb
    isplitl [Htr]; · iexact Htr
    iexact Hlm
  iintro ⟨Hb, Htr, Hlm⟩
  imodintro
  isplitl [HO HR]
  · iapply (show _ ⊢ (K (F := F)).tcSt EH d 1 from Entails.of_eq hR.symm)
    isplitl [HO]; · iexact HO
    iexact HR
  isplitr [Hb Hts]
  · isplitl [Hpr]; · iexact Hpr
    isplitl [Hli]; · iexact Hli
    isplitl [Hsm]; · iexact Hsm
    isplitl [Hlo]; · iexact Hlo
    isplitl [Hva]; · iexact Hva
    iexact Hlm
  isplitl [Hb]; · iexact Hb
  iexact Hts

/-! ## The final memory -/

/-- What the claims read of device `d`'s final state. -/
def fq (d : Dev nD) (s' : Phys nD τ sig (Elt F)) : Prop :=
  s'.mem.mem (prLoc d) = m (prLoc d) ∧ s'.mem.mem (liLoc d) = m (liLoc d) ∧ s'.mem.mem (smLoc d) = seqMask
    ∧ s'.mem.mem (loLoc d) = logitsOf (m (liLoc d)) ∧ s'.mem.mem (vaLoc d) = valuesOf (m (prLoc d)) ∧ s'.mem.mem (lmLoc d) = logMask

/-- An array held whole is what the final memory holds. -/
theorem read_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4, H5⟩, HSI⟩
  ihave H := (read_whole s' (prLoc d) _) $$ [HSI H0]
  · isplitl [HSI]; · iexact HSI
    iexact H0
  icases H with ⟨%h0, HSI⟩
  ihave H := (read_whole s' (liLoc d) _) $$ [HSI H1]
  · isplitl [HSI]; · iexact HSI
    iexact H1
  icases H with ⟨%h1, HSI⟩
  ihave H := (read_whole s' (smLoc d) seqMask) $$ [HSI H2]
  · isplitl [HSI]; · iexact HSI
    iexact H2
  icases H with ⟨%h2, HSI⟩
  ihave H := (read_whole s' (loLoc d) (logitsOf (m (liLoc d)))) $$ [HSI H3]
  · isplitl [HSI]; · iexact HSI
    iexact H3
  icases H with ⟨%h3, HSI⟩
  ihave H := (read_whole s' (vaLoc d) (valuesOf (m (prLoc d)))) $$ [HSI H4]
  · isplitl [HSI]; · iexact HSI
    iexact H4
  icases H with ⟨%h4, HSI⟩
  ihave H := (read_whole s' (lmLoc d) logMask) $$ [HSI H5]
  · isplitl [HSI]; · iexact HSI
    iexact H5
  icases H with ⟨%h5, -⟩
  ipureintro
  exact ⟨h0, h1, h2, h3, h4, h5⟩

/-- The run's postcondition: the six arrays at their closed forms on every device, every semaphore at zero. -/
def QC : PUnit × MemSt nD τ sig (Elt F) → Prop := fun r =>
  (∀ d : Dev nD, r.2.mem (prLoc d) = m (prLoc d) ∧ r.2.mem (liLoc d) = m (liLoc d) ∧ r.2.mem (smLoc d) = seqMask
    ∧ r.2.mem (loLoc d) = logitsOf (m (liLoc d)) ∧ r.2.mem (vaLoc d) = valuesOf (m (prLoc d)) ∧ r.2.mem (lmLoc d) = logMask)
  ∧ r.2.sem = fun _ => 0

/-- The kernel's run, at any numbers: from any launch memory every schedule ends in `QC`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (A0 m) (B0 m)) (A := ∅) facts v₀
    (fun q hq => match q with | 0 => nomatch hq)
    (fun q _ => match q with | 0 => tileObl (A0 m) (B0 m))
    (fun q _ => match q with | 0 => SparseCore.Cfg.VecSplit.of_plain (vecSplit (A0 m) (B0 m)))
    m ρ main (GHOST (F := F)) (FIN m) (u₀ (F := F)) (sep_elim_left.trans (hu₀ m)) (hmain m ρ) (fq m) (hfin m) (QC m) (fun _ h hz => ⟨h, hz⟩)

end Run

end Cert.Proof.Run

end
-- ==== Proof.Frames.lean ====
/-
  The frames: the kernel and the reference run, their arguments end unchanged and every semaphore at zero.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Proof

open Idealize.ShloMosaic Idealize.SL.Sem

instance : Cert.Kernel.Facts := Cert.Kernel.Gen.facts

/-- The two printings have the same table of kernel bodies. -/
theorem bodies_same : (Cert.Kernel.defs₀ (F := Bits)) = (Cert.KernelIdeal.defs₀ (F := Bits)) := by
  refine funext fun p => ?_
  cases p with
  | tc => exact funext fun ℓ => funext fun a => match ℓ, a with
    | ⟨0, _⟩, _ => rfl
    | ⟨1, _⟩, _ => rfl
  | scScalar c => exact funext fun ℓ => funext fun a => match ℓ, a with
    | ⟨0, _⟩, _ => rfl
    | ⟨1, _⟩, _ => rfl
  | scVector c s => exact funext fun ℓ => funext fun a => match ℓ, a with
    | ⟨0, _⟩, _ => rfl
    | ⟨1, _⟩, _ => rfl

/-- The two printings have the same functions. -/
theorem defs_same : (Cert.Kernel.defs (F := Bits)) = (Cert.KernelIdeal.defs (F := Bits)) :=
  congrArg (fun D => (Cert.KernelIdeal.sc (F := Bits)).defs (Pipeline.defs (Cert.KernelIdeal.pcfgs (F := Bits)) D)) bodies_same

/-- The two printings have the same threads. -/
theorem threads_same : (Cert.Kernel.threads (F := Bits)) = (Cert.KernelIdeal.threads (F := Bits)) := rfl

/-- The kernel as printed runs as its other printing does. -/
theorem run_same (m : (ℓ : Loc Cert.KernelIdeal.nD Cert.KernelIdeal.τ Cert.KernelIdeal.sig) → Buf (Elt Bits) ℓ)
    (ρ : Dev Cert.KernelIdeal.nD → PrngReg) :
    θ_run (Cert.Kernel.defs (F := Bits)) (Cert.Kernel.threads (F := Bits)) ⟨m, fun _ => 0, ρ⟩ (Run.QC (F := Bits) m) := by
  have h := Run.run_main (F := Bits) m ρ
  rw [← defs_same] at h
  exact h

/-- The kernel as printed, at bit patterns. -/
theorem frame_kernel : Cert.quiescent_Kernel (hKernel := Cert.Kernel.Gen.facts) := fun m ρ _ =>
  (θ_run (Cert.Kernel.defs (F := Bits)) (Cert.Kernel.threads (F := Bits)) ⟨m, fun _ => 0, ρ⟩).mono
    (fun _ h => ⟨fun c => ⟨(h.1 c).1, (h.1 c).2.1⟩, h.2⟩) (run_same m ρ)

/-- The kernel read at the ideal numbers. -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Run.run_main (F := Ideal) m ρ)

/-- The reference: no operation writes an argument, and no semaphore is declared. -/
theorem frame_referenceIdeal : Cert.quiescent_ReferenceIdeal (hReferenceIdeal := Cert.ReferenceIdeal.Gen.facts) := fun m ρ _ =>
  (θ_run (Cert.ReferenceIdeal.defs (F := Ideal)) _ _).mono
    (fun r h => ⟨fun c => ⟨(h c).2.2.2.2.1, (h c).2.2.2.2.2⟩, sem_eq_zero_of_no_sems (by decide) r.2⟩)
    (Cert.ReferenceIdeal.Value.run (F := Ideal) m ρ)

end Cert.Proof

end
-- ==== Proof.Tables.lean ====
/-
  The reference's constant tables in closed form: which element each place of a result is taken from.
-/
module

public import proofs.«01_k».proof.KernelIdeal
public import proofs.«01_k».proof.ReferenceIdeal

@[expose] public section

namespace Cert.Proof.Ref

/-- The place of the flattened prompt that place `i = q * 520 + s` of the values is taken from: `s - 1 - q` of codebook `q`,
    or `4096`, one past the end, where the prompt has no such time. -/
def promptAt (i : ℕ) : ℕ :=
  if i / 520 + 1 ≤ i % 520 ∧ i % 520 < i / 520 + 513 then i % 520 - 1 - i / 520 + i / 520 * 512 else 4096

/-- The place of the flattened logits that place `i = q * 512 + t` of the result is taken from: `t + q` of codebook `q`. -/
def logitAt (i : ℕ) : ℕ := i % 512 + i / 512 + i / 512 * 519

theorem promptAt_le {i : ℕ} (h : i < 4160) : promptAt i ≤ 4096 := by
  unfold promptAt; split <;> omega

theorem logitAt_lt {i : ℕ} (h : i < 4096) : logitAt i < 4152 := by
  unfold logitAt; omega

set_option maxRecDepth 100000 in
/-- The table of the prompt's places. -/
theorem prompt_table : ∀ i : Fin 4160, Cert.ReferenceIdeal.lit0 i = BitVec.ofNat 32 (promptAt i.val) := by decide +kernel

set_option maxRecDepth 100000 in
/-- The table of the logits' places. -/
theorem logit_table : ∀ i : Fin 4096, Cert.ReferenceIdeal.lit2 i = BitVec.ofNat 32 (logitAt i.val) := by decide +kernel

set_option maxRecDepth 100000 in
/-- The reference and the kernel have the same mask. -/
theorem mask_table : ∀ i : Fin 4160, Cert.ReferenceIdeal.lit1 i = Cert.KernelIdeal.lit0 i := by decide +kernel

end Cert.Proof.Ref
-- ==== Proof.Take.lean ====
/-
  What the reference's `take` computes: its index words wrapped, checked against the bounds, gathered, and the words out of
  bounds replaced. Where every word is in bounds it is the gathered element.
-/
module

public import proofs.«01_k».proof.ReferenceIdeal
public import Idealize.ShloMosaic.Lib.Pointwise
public import Idealize.ShloMosaic.Lib.ReduceAll

@[expose] public section

noncomputable section

namespace Cert.Proof.Ref

open Cert.ReferenceIdeal Idealize.ShloMosaic

variable [Cert.ReferenceIdeal.Facts₀] {α : Type}

/-! ## One index word -/

theorem toInt_small {w : BitVec 32} (h : w.toNat ≤ 5000) : w.toInt = (w.toNat : ℤ) := by
  rw [BitVec.toInt_eq_toNat_cond, if_pos (by omega)]

/-- A word in bounds is not below zero. -/
theorem not_neg {w : BitVec 32} (h : w.toNat ≤ 5000) : IntOp.cmpi .slt w 0#32 = 0#1 := by
  have hn : ¬IntOp.cmpi .slt w 0#32 = 1#1 := by
    rw [IntOp.cmpi_slt, toInt_small h]; simp
  generalize IntOp.cmpi .slt w 0#32 = c at hn ⊢
  revert hn; revert c; decide

/-- A word in bounds is at least zero. -/
theorem at_least {w : BitVec 32} (h : w.toNat ≤ 5000) : IntOp.cmpi .sge w 0#32 = 1#1 := by
  rw [IntOp.cmpi_sge, toInt_small h]; simp

/-- A word in bounds is at most the bound. -/
theorem at_most {w v : BitVec 32} (hv : v.toNat ≤ 5000) (h : w.toNat ≤ v.toNat) : IntOp.cmpi .sle w v = 1#1 := by
  rw [IntOp.cmpi_sle, toInt_small hv, toInt_small (le_trans h hv)]; exact_mod_cast h

/-! ## The prompt's gather -/

/-- Where that gather starts on the gathered axis: at the index word, cut off at the last place. -/
theorem start_gather_prompt (idx : IVec S4160x1 32) (y : S8x4160.Idx) :
    GatherDims.start gather_S8x4097_S4160x1_S8x4160_0_1_n_n_1_1_81 y idx (1 : Fin 2) = min (idx (ix2 (y 1) (0 : Fin 1))).toInt.toNat 4096 := by
  have hsi : GatherDims.siIdx gather_S8x4097_S4160x1_S8x4160_0_1_n_n_1_1_81 y ⟨0, show 0 < 1 from Nat.one_pos⟩ = ix2 (y 1) (0 : Fin 1) := by
    funext b; refine Fin.ext ?_
    match b with
    | ⟨0, _⟩ => rfl
    | ⟨1, _⟩ => rfl
  exact congrArg (fun z => min (idx z).toInt.toNat 4096) hsi

/-- The gather of the prompt at result place `(b, i)`: row `b`, at the word of place `i`, cut off at the last column. -/
theorem gather_prompt (x : S8x4097.Idx → α) (idx : IVec S4160x1 32) (y : S8x4160.Idx) :
    Host.gather gather_S8x4097_S4160x1_S8x4160_0_1_n_n_1_1_81 x idx y
      = x (ix2 (y 0) ⟨min (idx (ix2 (y 1) (0 : Fin 1))).toInt.toNat 4096, by omega⟩) := by
  unfold Host.gather
  congr 1
  funext a
  refine Fin.ext ?_
  show GatherDims.start gather_S8x4097_S4160x1_S8x4160_0_1_n_n_1_1_81 y idx a + GatherDims.batchCoord gather_S8x4097_S4160x1_S8x4160_0_1_n_n_1_1_81 y a + GatherDims.offCoord gather_S8x4097_S4160x1_S8x4160_0_1_n_n_1_1_81 y a = _
  match a with
  | ⟨0, _⟩ =>
    have hs : GatherDims.start gather_S8x4097_S4160x1_S8x4160_0_1_n_n_1_1_81 y idx (0 : Fin 2) = 0 := rfl
    have hb : GatherDims.batchCoord gather_S8x4097_S4160x1_S8x4160_0_1_n_n_1_1_81 y (0 : Fin 2) = 0 := rfl
    have ho : GatherDims.offCoord gather_S8x4097_S4160x1_S8x4160_0_1_n_n_1_1_81 y (0 : Fin 2) = (y 0).val := rfl
    exact (congrArg₂ (· + ·) (congrArg₂ (· + ·) hs hb) ho).trans ((congrArg (· + _) (Nat.zero_add 0)).trans (Nat.zero_add _))
  | ⟨1, _⟩ =>
    have hs : GatherDims.start gather_S8x4097_S4160x1_S8x4160_0_1_n_n_1_1_81 y idx (1 : Fin 2) = min (idx (ix2 (y 1) (0 : Fin 1))).toInt.toNat 4096 := start_gather_prompt idx y
    have hb : GatherDims.batchCoord gather_S8x4097_S4160x1_S8x4160_0_1_n_n_1_1_81 y (1 : Fin 2) = 0 := rfl
    have ho : GatherDims.offCoord gather_S8x4097_S4160x1_S8x4160_0_1_n_n_1_1_81 y (1 : Fin 2) = 0 := rfl
    exact (congrArg₂ (· + ·) (congrArg₂ (· + ·) hs hb) ho).trans rfl

/-! ## The logits' gather -/

/-- Where that gather starts on the gathered axis: at the index word, cut off at the last place. -/
theorem start_gather_logits (idx : IVec S4096x1 32) (y : S8x2048x4096.Idx) :
    GatherDims.start gather_S8x2048x4153_S4096x1_S8x2048x4096_01_2_n_n_2_1_820481 y idx (2 : Fin 3) = min (idx (ix2 (y 2) (0 : Fin 1))).toInt.toNat 4152 := by
  have hsi : GatherDims.siIdx gather_S8x2048x4153_S4096x1_S8x2048x4096_01_2_n_n_2_1_820481 y ⟨0, show 0 < 1 from Nat.one_pos⟩ = ix2 (y 2) (0 : Fin 1) := by
    funext b; refine Fin.ext ?_
    match b with
    | ⟨0, _⟩ => rfl
    | ⟨1, _⟩ => rfl
  exact congrArg (fun z => min (idx z).toInt.toNat 4152) hsi

/-- The gather of the logits at result place `(b, c, i)`: row `b`, card `c`, at the word of place `i`, cut off at the last. -/
theorem gather_logits (x : S8x2048x4153.Idx → α) (idx : IVec S4096x1 32) (y : S8x2048x4096.Idx) :
    Host.gather gather_S8x2048x4153_S4096x1_S8x2048x4096_01_2_n_n_2_1_820481 x idx y
      = x (ix3 (y 0) (y 1) ⟨min (idx (ix2 (y 2) (0 : Fin 1))).toInt.toNat 4152, by omega⟩) := by
  unfold Host.gather
  congr 1
  funext a
  refine Fin.ext ?_
  show GatherDims.start gather_S8x2048x4153_S4096x1_S8x2048x4096_01_2_n_n_2_1_820481 y idx a + GatherDims.batchCoord gather_S8x2048x4153_S4096x1_S8x2048x4096_01_2_n_n_2_1_820481 y a + GatherDims.offCoord gather_S8x2048x4153_S4096x1_S8x2048x4096_01_2_n_n_2_1_820481 y a = _
  match a with
  | ⟨0, _⟩ =>
    have hs : GatherDims.start gather_S8x2048x4153_S4096x1_S8x2048x4096_01_2_n_n_2_1_820481 y idx (0 : Fin 3) = 0 := rfl
    have hb : GatherDims.batchCoord gather_S8x2048x4153_S4096x1_S8x2048x4096_01_2_n_n_2_1_820481 y (0 : Fin 3) = 0 := rfl
    have ho : GatherDims.offCoord gather_S8x2048x4153_S4096x1_S8x2048x4096_01_2_n_n_2_1_820481 y (0 : Fin 3) = (y 0).val := rfl
    exact (congrArg₂ (· + ·) (congrArg₂ (· + ·) hs hb) ho).trans ((congrArg (· + _) (Nat.zero_add 0)).trans (Nat.zero_add _))
  | ⟨1, _⟩ =>
    have hs : GatherDims.start gather_S8x2048x4153_S4096x1_S8x2048x4096_01_2_n_n_2_1_820481 y idx (1 : Fin 3) = 0 := rfl
    have hb : GatherDims.batchCoord gather_S8x2048x4153_S4096x1_S8x2048x4096_01_2_n_n_2_1_820481 y (1 : Fin 3) = 0 := rfl
    have ho : GatherDims.offCoord gather_S8x2048x4153_S4096x1_S8x2048x4096_01_2_n_n_2_1_820481 y (1 : Fin 3) = (y 1).val := rfl
    exact (congrArg₂ (· + ·) (congrArg₂ (· + ·) hs hb) ho).trans ((congrArg (· + _) (Nat.zero_add 0)).trans (Nat.zero_add _))
  | ⟨2, _⟩ =>
    have hs : GatherDims.start gather_S8x2048x4153_S4096x1_S8x2048x4096_01_2_n_n_2_1_820481 y idx (2 : Fin 3) = min (idx (ix2 (y 2) (0 : Fin 1))).toInt.toNat 4152 := start_gather_logits idx y
    have hb : GatherDims.batchCoord gather_S8x2048x4153_S4096x1_S8x2048x4096_01_2_n_n_2_1_820481 y (2 : Fin 3) = 0 := rfl
    have ho : GatherDims.offCoord gather_S8x2048x4153_S4096x1_S8x2048x4096_01_2_n_n_2_1_820481 y (2 : Fin 3) = 0 := rfl
    exact (congrArg₂ (· + ·) (congrArg₂ (· + ·) hs hb) ho).trans rfl

end Cert.Proof.Ref

end
-- ==== Proof.Prompt.lean ====
/-
  The reference's values: the composed term its run leaves is the delayed prompt.
-/
module

public import proofs.«01_k».proof.Proof.Tables
public import proofs.«01_k».proof.Proof.Take
public import proofs.«01_k».proof.Proof.Rows

@[expose] public section

noncomputable section

namespace Cert.Proof.Ref

open Cert.ReferenceIdeal Cert.ReferenceIdeal.Facts₀ Idealize.ShloMosaic

variable [Cert.ReferenceIdeal.Facts₀]

/-- Wrapping the index words below zero leaves words in bounds as they are. -/
theorem wrap_prompt (W : IVec S4160 32) (hW : ∀ i, (W i).toNat ≤ 4096) :
    select (cmpi .slt W (broadcastInDim S4160 ![] bcast_S_S4160 (constantI S_ 32 0#32)))
      (addi W (broadcastInDim S4160 ![] bcast_S_S4160 (constantI S_ 32 4097#32))) W = W := by
  funext i
  have h := not_neg (w := W i) (le_trans (hW i) (by omega))
  show (if IntOp.cmpi .slt (W i) 0#32 = 1#1 then _ else W i) = W i
  rw [h]; exact if_neg (by decide)

/-- Every index word in bounds passes the bounds check. -/
theorem check_prompt (W : IVec S4160 32) (hW : ∀ i, (W i).toNat ≤ 4096) (j : S4160.Idx) :
    Host.reduce IntOp.andi
      (andi (cmpi .sge (broadcastInDim S4160x1 ![0] bcast_S4160_S4160x1_0 W)
          (broadcastInDim S4160x1 ![] bcast_S_S4160x1 (constantI S_ 32 0#32)))
        (cmpi .sle (broadcastInDim S4160x1 ![0] bcast_S4160_S4160x1_0 W)
          (broadcastInDim S4160x1 ![0, 1] bcast_S1x1_S4160x1_0_1 (broadcastInDim S1x1 ![1] bcast_S1_S1x1_1 (constantI S1 32 4096#32)))))
      (constantI S_ 1 1#1) reducesTo_S4160x1_S4160_d1 h_S_ j = 1#1 := by
  refine Host.reduce_andi_one _ _ _ _ _ rfl fun i => ?_
  have hi : (broadcastInDim S4160x1 ![0] bcast_S4160_S4160x1_0 W i).toNat ≤ 4096 := hW _
  exact IntOp.andi_eq_one.2 ⟨at_least (le_trans hi (by omega)), at_most (v := 4096#32) (by decide) hi⟩

/-- The reference's values, from the prompt `X`: the composed term of its operations. -/
def valuesTerm (X : S8x8x512.Idx → BitVec 32) (W : IVec S4160 32) : S8x8x520.Idx → BitVec 32 :=
  shapeCast S8x8x520
    (select
      (broadcastInDim S8x4160 ![1] bcast_S4160_S8x4160_1
        (Host.reduce IntOp.andi
          (andi
            (cmpi .sge
              (broadcastInDim S4160x1 ![0] bcast_S4160_S4160x1_0
                (select (cmpi .slt W (broadcastInDim S4160 ![] bcast_S_S4160 (constantI S_ 32 0#32)))
                  (addi W (broadcastInDim S4160 ![] bcast_S_S4160 (constantI S_ 32 4097#32))) W))
              (broadcastInDim S4160x1 ![] bcast_S_S4160x1 (constantI S_ 32 0#32)))
            (cmpi .sle
              (broadcastInDim S4160x1 ![0] bcast_S4160_S4160x1_0
                (select (cmpi .slt W (broadcastInDim S4160 ![] bcast_S_S4160 (constantI S_ 32 0#32)))
                  (addi W (broadcastInDim S4160 ![] bcast_S_S4160 (constantI S_ 32 4097#32))) W))
              (broadcastInDim S4160x1 ![0, 1] bcast_S1x1_S4160x1_0_1
                (broadcastInDim S1x1 ![1] bcast_S1_S1x1_1 (constantI S1 32 4096#32)))))
          (constantI S_ 1 1#1) reducesTo_S4160x1_S4160_d1 h_S_))
      (Host.gather gather_S8x4097_S4160x1_S8x4160_0_1_n_n_1_1_81
        (concatenate S8x4097 1
          [⟨S8x4096, shapeCast S8x4096 X shapeCasts_S8x8x512_S8x4096⟩,
            ⟨S8x1, broadcastInDim S8x1 ![] bcast_S_S8x1 (constantI S_ 32 2048#32)⟩]
          concatenates_S8x4096_S8x1_S8x4097_d1)
        (broadcastInDim S4160x1 ![0] bcast_S4160_S4160x1_0
          (select (cmpi .slt W (broadcastInDim S4160 ![] bcast_S_S4160 (constantI S_ 32 0#32)))
            (addi W (broadcastInDim S4160 ![] bcast_S_S4160 (constantI S_ 32 4097#32))) W)))
      (broadcastInDim S8x4160 ![] bcast_S_S8x4160 (constantI S_ 32 2147483648#32)))
    shapeCasts_S8x4160_S8x8x520

/-- The prompt flattened by rows, with the special word past the end, at a place. -/
theorem flat_prompt (X : S8x8x512.Idx → BitVec 32) (b : Fin 8) (k : Fin 4097) :
    concatenate S8x4097 1
      [⟨S8x4096, shapeCast S8x4096 X shapeCasts_S8x8x512_S8x4096⟩,
        ⟨S8x1, broadcastInDim S8x1 ![] bcast_S_S8x1 (constantI S_ 32 2048#32)⟩]
      concatenates_S8x4096_S8x1_S8x4097_d1 (ix2 b k)
      = if h : k.val < 4096 then X (ix3 b (⟨k.val / 512, by omega⟩ : Fin 8) (⟨k.val % 512, by omega⟩ : Fin 512)) else 2048#32 := by
  have hk : k.val < 4097 := k.isLt
  pointwise
  repeat' split
  all_goals first | rfl | (exfalso; omega)

/-- With index words in bounds, the values are the gathered elements of the flattened prompt. -/
theorem valuesTerm_at (X : S8x8x512.Idx → BitVec 32) (W : IVec S4160 32) (hW : ∀ i, (W i).toNat ≤ 4096) (y : S8x8x520.Idx) :
    valuesTerm X W y
      = concatenate S8x4097 1
          [⟨S8x4096, shapeCast S8x4096 X shapeCasts_S8x8x512_S8x4096⟩,
            ⟨S8x1, broadcastInDim S8x1 ![] bcast_S_S8x1 (constantI S_ 32 2048#32)⟩]
          concatenates_S8x4096_S8x1_S8x4097_d1
          (ix2 (y 0) ⟨(W (ix1 (⟨(y 1).val * 520 + (y 2).val, by have h1 : (y 1).val < 8 := (y 1).isLt; have h2 : (y 2).val < 520 := (y 2).isLt; omega⟩ : Fin 4160))).toNat,
            Nat.lt_succ_of_le (hW _)⟩) := by
  unfold valuesTerm
  rw [wrap_prompt W hW]
  generalize hZ : concatenate S8x4097 1 _ _ = Z
  have hc := fun j => check_prompt W hW j
  generalize Host.reduce IntOp.andi _ _ _ _ = R at hc ⊢
  have hg : Host.gather gather_S8x4097_S4160x1_S8x4160_0_1_n_n_1_1_81 Z (broadcastInDim S4160x1 ![0] bcast_S4160_S4160x1_0 W)
      = fun j => Z (ix2 (j 0) ⟨min (broadcastInDim S4160x1 ![0] bcast_S4160_S4160x1_0 W (ix2 (j 1) (0 : Fin 1))).toInt.toNat 4096, by omega⟩) :=
    funext fun j => gather_prompt Z _ j
  rw [hg]
  pointwise
  simp only [hc]
  show Z _ = Z _
  refine congrArg (fun k : Fin 4097 => Z (ix2 (y 0) k)) (Fin.ext ?_)
  show min (BitVec.toInt _).toNat 4096 = BitVec.toNat _
  have hi := hW (ix1 (⟨(y 1).val * 520 + (y 2).val, by
    have h1 : (y 1).val < 8 := (y 1).isLt; have h2 : (y 2).val < 520 := (y 2).isLt; omega⟩ : Fin 4160))
  rw [toInt_small (le_trans hi (by omega)), Int.toNat_natCast]
  exact min_eq_left hi

/-- The reference's index words of the prompt. -/
def promptWords : IVec S4160 32 := fun i => lit0 (S4160.rowMajor i)

theorem promptWords_toNat (i : S4160.Idx) : (promptWords i).toNat = promptAt (i 0).val := by
  have hv : (S4160.rowMajor i).val = (i 0).val := Shape.rowMajor_val_one i
  have hl : (i 0).val < 4160 := (i 0).isLt
  have hp := promptAt_le hl
  refine (congrArg BitVec.toNat (prompt_table (S4160.rowMajor i))).trans ?_
  rw [hv, BitVec.toNat_ofNat]
  exact Nat.mod_eq_of_lt (by omega)

theorem promptWords_le (i : S4160.Idx) : (promptWords i).toNat ≤ 4096 := by
  rw [promptWords_toNat]; exact promptAt_le (i 0).isLt

/-- The reference's values are the delayed prompt. -/
theorem values_ref (X : S8x8x512.Idx → BitVec 32) : valuesTerm X promptWords = Cert.Proof.Run.valuesOf X := by
  funext y
  have h1 : (y 1).val < 8 := (y 1).isLt
  have h2 : (y 2).val < 520 := (y 2).isLt
  rw [valuesTerm_at X promptWords promptWords_le y]
  refine (flat_prompt X (y 0) _).trans ?_
  have hw := promptWords_toNat (ix1 (⟨(y 1).val * 520 + (y 2).val, by omega⟩ : Fin 4160))
  have hp : promptAt ((y 1).val * 520 + (y 2).val)
      = if (y 1).val + 1 ≤ (y 2).val ∧ (y 2).val < (y 1).val + 513 then (y 2).val - 1 - (y 1).val + (y 1).val * 512 else 4096 := by
    unfold promptAt
    rw [show ((y 1).val * 520 + (y 2).val) / 520 = (y 1).val by omega, show ((y 1).val * 520 + (y 2).val) % 520 = (y 2).val by omega]
  have hw' : (promptWords (ix1 (⟨(y 1).val * 520 + (y 2).val, by omega⟩ : Fin 4160))).toNat
      = promptAt ((y 1).val * 520 + (y 2).val) := hw
  rw [hp] at hw'
  unfold Cert.Proof.Run.valuesOf
  by_cases hc : (y 1).val + 1 ≤ (y 2).val ∧ (y 2).val < (y 1).val + 513
  · rw [if_pos hc] at hw'
    rw [dif_pos hc, dif_pos (show BitVec.toNat _ < 4096 by rw [hw']; omega)]
    refine congrArg X ?_
    refine congrArg₂ (fun (q : Fin 8) (t : Fin 512) => ix3 (y 0) q t) (Fin.ext ?_) (Fin.ext ?_)
    · show BitVec.toNat _ / 512 = (y 1).val
      rw [hw']; omega
    · show BitVec.toNat _ % 512 = (y 2).val - (y 1).val - 1
      rw [hw']; omega
  · rw [if_neg hc] at hw'
    rw [dif_neg hc, dif_neg (show ¬BitVec.toNat _ < 4096 by rw [hw']; omega)]

end Cert.Proof.Ref

end
-- ==== Proof.Logits.lean ====
/-
  The reference's logits: the composed term its run leaves is the logits each codebook's shift later, as the kernel copies them.
-/
module

public import proofs.«01_k».proof.Proof.Tables
public import proofs.«01_k».proof.Proof.Take
public import proofs.«01_k».proof.Proof.Main

@[expose] public section

noncomputable section

namespace Cert.Proof.Ref

open Cert.ReferenceIdeal Cert.ReferenceIdeal.Facts₀ Idealize.ShloMosaic

variable {F : FTy → Type} [FloatOps F]

/-! ## The kernel's logits at a place -/

/-- Two places of the logits with the same numbers hold the same element. -/
theorem place_congr (L : S8x8x519x2048.Idx → Elt F .f32) {a a' b b' : Fin 8} {t t' : Fin 519} {c c' : Fin 2048}
    (ha : a.val = a'.val) (hb : b.val = b'.val) (ht : t.val = t'.val) (hc : c.val = c'.val) :
    L (ix4 a b t c) = L (ix4 a' b' t' c') := by
  rw [Fin.ext ha, Fin.ext hb, Fin.ext ht, Fin.ext hc]

/-- The logits the kernel leaves at `(b, q, t, c)` are the given ones at `(b, q, t + q, c)`. -/
theorem logitsOf_at (L : S8x8x519x2048.Idx → Elt F .f32) (y : S8x8x512x2048.Idx) :
    Cert.Proof.Run.logitsOf (F := F) L y
      = L (ix4 (y 0) (y 1) (⟨(y 2).val + (y 1).val, by
          have h1 : (y 1).val < 8 := (y 1).isLt; have h2 : (y 2).val < 512 := (y 2).isLt; omega⟩ : Fin 519) (y 3)) := by
  have h0 : (y 0).val < 8 := (y 0).isLt
  have h1 : (y 1).val < 8 := (y 1).isLt
  have h2 : (y 2).val < 512 := (y 2).isLt
  have h3 : (y 3).val < 2048 := (y 3).isLt
  unfold Cert.Proof.Run.logitsOf Cert.Proof.Run.rowsOf Cert.Proof.Run.gath
  pointwise
  have hs : Cert.Proof.Run.srcRow ((y 0).val * 4096 + (y 1).val * 512 + (y 2).val) = (y 0).val * 4152 + (y 1).val * 519 + ((y 2).val + (y 1).val) := by
    unfold Cert.Proof.Run.srcRow; omega
  refine place_congr L ?_ ?_ ?_ rfl
  · show Cert.Proof.Run.srcRow ((y 0).val * 4096 + (y 1).val * 512 + (y 2).val) / 4152 = (y 0).val
    rw [hs]; omega
  · show Cert.Proof.Run.srcRow ((y 0).val * 4096 + (y 1).val * 512 + (y 2).val) / 519 % 8 = (y 1).val
    have hd : ((y 0).val * 4152 + (y 1).val * 519 + ((y 2).val + (y 1).val)) / 519 = (y 0).val * 8 + (y 1).val := by omega
    rw [hs, hd]; omega
  · show Cert.Proof.Run.srcRow ((y 0).val * 4096 + (y 1).val * 512 + (y 2).val) % 519 = (y 2).val + (y 1).val
    rw [hs]; omega

variable [Cert.ReferenceIdeal.Facts₀]

/-! ## The reference's -/

/-- Wrapping the index words below zero leaves words in bounds as they are. -/
theorem wrap_logits (W : IVec S4096 32) (hW : ∀ i, (W i).toNat ≤ 4152) :
    select (cmpi .slt W (broadcastInDim S4096 ![] bcast_S_S4096 (constantI S_ 32 0#32)))
      (addi W (broadcastInDim S4096 ![] bcast_S_S4096 (constantI S_ 32 4153#32))) W = W := by
  funext i
  have h := not_neg (w := W i) (le_trans (hW i) (by omega))
  show (if IntOp.cmpi .slt (W i) 0#32 = 1#1 then _ else W i) = W i
  rw [h]; exact if_neg (by decide)

/-- Every index word in bounds passes the bounds check. -/
theorem check_logits (W : IVec S4096 32) (hW : ∀ i, (W i).toNat ≤ 4152) (j : S4096.Idx) :
    Host.reduce IntOp.andi
      (andi (cmpi .sge (broadcastInDim S4096x1 ![0] bcast_S4096_S4096x1_0 W)
          (broadcastInDim S4096x1 ![] bcast_S_S4096x1 (constantI S_ 32 0#32)))
        (cmpi .sle (broadcastInDim S4096x1 ![0] bcast_S4096_S4096x1_0 W)
          (broadcastInDim S4096x1 ![0, 1] bcast_S1x1_S4096x1_0_1 (broadcastInDim S1x1 ![1] bcast_S1_S1x1_1 (constantI S1 32 4152#32)))))
      (constantI S_ 1 1#1) reducesTo_S4096x1_S4096_d1 h_S_ j = 1#1 := by
  refine Host.reduce_andi_one _ _ _ _ _ rfl fun i => ?_
  have hi : (broadcastInDim S4096x1 ![0] bcast_S4096_S4096x1_0 W i).toNat ≤ 4152 := hW _
  exact IntOp.andi_eq_one.2 ⟨at_least (le_trans hi (by omega)), at_most (v := 4152#32) (by decide) hi⟩

/-- The reference's logits with card first, flattened over codebook and time, with one fill place past the end. -/
def flatLogits (L : S8x8x519x2048.Idx → Elt F .f32) : S8x2048x4153.Idx → Elt F .f32 :=
  concatenate S8x2048x4153 2
    [⟨S8x2048x4152, shapeCast S8x2048x4152
        (transpose S8x2048x8x519 [0, 3, 1, 2] L transposes_S8x8x519x2048_S8x2048x8x519_0_3_1_2)
        shapeCasts_S8x2048x8x519_S8x2048x4152⟩,
      ⟨S8x2048x1, broadcastInDim S8x2048x1 ![] bcast_S_S8x2048x1 (constant S_ .f32 0x7FC00000#32)⟩]
    concatenates_S8x2048x4152_S8x2048x1_S8x2048x4153_d2

/-- The reference's logits, from the given ones `L`: the composed term of its operations. -/
def logitsTerm (L : S8x8x519x2048.Idx → Elt F .f32) (W : IVec S4096 32) : S8x8x512x2048.Idx → Elt F .f32 :=
  transpose S8x8x512x2048 [0, 2, 3, 1]
    (shapeCast S8x2048x8x512
      (select
        (broadcastInDim S8x2048x4096 ![2] bcast_S4096_S8x2048x4096_2
          (Host.reduce IntOp.andi
            (andi
              (cmpi .sge
                (broadcastInDim S4096x1 ![0] bcast_S4096_S4096x1_0
                  (select (cmpi .slt W (broadcastInDim S4096 ![] bcast_S_S4096 (constantI S_ 32 0#32)))
                    (addi W (broadcastInDim S4096 ![] bcast_S_S4096 (constantI S_ 32 4153#32))) W))
                (broadcastInDim S4096x1 ![] bcast_S_S4096x1 (constantI S_ 32 0#32)))
              (cmpi .sle
                (broadcastInDim S4096x1 ![0] bcast_S4096_S4096x1_0
                  (select (cmpi .slt W (broadcastInDim S4096 ![] bcast_S_S4096 (constantI S_ 32 0#32)))
                    (addi W (broadcastInDim S4096 ![] bcast_S_S4096 (constantI S_ 32 4153#32))) W))
                (broadcastInDim S4096x1 ![0, 1] bcast_S1x1_S4096x1_0_1
                  (broadcastInDim S1x1 ![1] bcast_S1_S1x1_1 (constantI S1 32 4152#32)))))
            (constantI S_ 1 1#1) reducesTo_S4096x1_S4096_d1 h_S_))
        (Host.gather gather_S8x2048x4153_S4096x1_S8x2048x4096_01_2_n_n_2_1_820481 (flatLogits L)
          (broadcastInDim S4096x1 ![0] bcast_S4096_S4096x1_0
            (select (cmpi .slt W (broadcastInDim S4096 ![] bcast_S_S4096 (constantI S_ 32 0#32)))
              (addi W (broadcastInDim S4096 ![] bcast_S_S4096 (constantI S_ 32 4153#32))) W)))
        (broadcastInDim S8x2048x4096 ![] bcast_S_S8x2048x4096 (constant S_ .f32 0x7FC00000#32)))
      shapeCasts_S8x2048x4096_S8x2048x8x512)
    transposes_S8x2048x8x512_S8x8x512x2048_0_2_3_1

/-- The flattened logits at a place before the fill. -/
theorem flatLogits_at (L : S8x8x519x2048.Idx → Elt F .f32) (b : Fin 8) (c : Fin 2048) (k : Fin 4153) (hk : k.val < 4152) :
    flatLogits L (ix3 b c k) = L (ix4 b (⟨k.val / 519, by omega⟩ : Fin 8) (⟨k.val % 519, by omega⟩ : Fin 519) c) := by
  unfold flatLogits
  pointwise
  repeat' split
  all_goals first | rfl | (exfalso; omega)

/-- With index words in bounds, the result is the gathered elements of the flattened logits. -/
theorem logitsTerm_at (L : S8x8x519x2048.Idx → Elt F .f32) (W : IVec S4096 32) (hW : ∀ i, (W i).toNat ≤ 4152)
    (y : S8x8x512x2048.Idx) :
    logitsTerm L W y
      = flatLogits L (ix3 (y 0) (y 3) ⟨(W (ix1 (⟨(y 1).val * 512 + (y 2).val, by
          have h1 : (y 1).val < 8 := (y 1).isLt; have h2 : (y 2).val < 512 := (y 2).isLt; omega⟩ : Fin 4096))).toNat,
            Nat.lt_succ_of_le (hW _)⟩) := by
  unfold logitsTerm
  rw [wrap_logits W hW]
  generalize flatLogits L = Z
  have hc := fun j => check_logits W hW j
  generalize Host.reduce IntOp.andi _ _ _ _ = R at hc ⊢
  have hg : Host.gather gather_S8x2048x4153_S4096x1_S8x2048x4096_01_2_n_n_2_1_820481 Z (broadcastInDim S4096x1 ![0] bcast_S4096_S4096x1_0 W)
      = fun j => Z (ix3 (j 0) (j 1) ⟨min (broadcastInDim S4096x1 ![0] bcast_S4096_S4096x1_0 W (ix2 (j 2) (0 : Fin 1))).toInt.toNat 4152, by omega⟩) :=
    funext fun j => gather_logits Z _ j
  rw [hg]
  pointwise
  simp only [hc]
  show Z _ = Z _
  refine congrArg (fun k : Fin 4153 => Z (ix3 (y 0) (y 3) k)) (Fin.ext ?_)
  show min (BitVec.toInt _).toNat 4152 = BitVec.toNat _
  have hi := hW (ix1 (⟨(y 1).val * 512 + (y 2).val, by
    have h1 : (y 1).val < 8 := (y 1).isLt; have h2 : (y 2).val < 512 := (y 2).isLt; omega⟩ : Fin 4096))
  rw [toInt_small (le_trans hi (by omega)), Int.toNat_natCast]
  exact min_eq_left hi

/-- The reference's index words of the logits. -/
def logitWords : IVec S4096 32 := fun i => lit2 (S4096.rowMajor i)

theorem logitWords_toNat (i : S4096.Idx) : (logitWords i).toNat = logitAt (i 0).val := by
  have hv : (S4096.rowMajor i).val = (i 0).val := Shape.rowMajor_val_one i
  have hl : (i 0).val < 4096 := (i 0).isLt
  have hp := logitAt_lt hl
  refine (congrArg BitVec.toNat (logit_table (S4096.rowMajor i))).trans ?_
  rw [hv, BitVec.toNat_ofNat]
  exact Nat.mod_eq_of_lt (by omega)

theorem logitWords_le (i : S4096.Idx) : (logitWords i).toNat ≤ 4152 := by
  rw [logitWords_toNat]; exact (logitAt_lt (i 0).isLt).le

/-- The reference's logits are the kernel's. -/
theorem logits_ref (L : S8x8x519x2048.Idx → Elt F .f32) : logitsTerm L logitWords = Cert.Proof.Run.logitsOf (F := F) L := by
  funext y
  have h1 : (y 1).val < 8 := (y 1).isLt
  have h2 : (y 2).val < 512 := (y 2).isLt
  have hw : (logitWords (ix1 (⟨(y 1).val * 512 + (y 2).val, by omega⟩ : Fin 4096))).toNat
      = logitAt ((y 1).val * 512 + (y 2).val) := logitWords_toNat (ix1 (⟨(y 1).val * 512 + (y 2).val, by omega⟩ : Fin 4096))
  have hl : logitAt ((y 1).val * 512 + (y 2).val) = (y 2).val + (y 1).val + (y 1).val * 519 := by unfold logitAt; omega
  rw [hl] at hw
  rw [logitsTerm_at L logitWords logitWords_le y, logitsOf_at L y]
  refine (flatLogits_at L (y 0) (y 3) _ (show BitVec.toNat _ < 4152 by rw [hw]; omega)).trans ?_
  refine congrArg L ?_
  refine congrArg₂ (fun (q : Fin 8) (t : Fin 519) => ix4 (y 0) q t (y 3)) (Fin.ext ?_) (Fin.ext ?_)
  · show BitVec.toNat _ / 519 = (y 1).val
    rw [hw]; omega
  · show BitVec.toNat _ % 519 = (y 2).val + (y 1).val
    rw [hw]; omega

end Cert.Proof.Ref

end
-- ==== Proof.Equation.lean ====
/-
  The equation: run on the same arguments, the kernel and the reference leave the same four results, at the ideal numbers.
-/
module

public import proofs.«01_k».proof.Proof.Frames
public import proofs.«01_k».proof.Proof.Prompt
public import proofs.«01_k».proof.Proof.Logits

@[expose] public section

noncomputable section

namespace Cert.Proof

open Idealize.ShloMosaic Idealize.SL.Sem

/-- The reference's mask of the values is the kernel's. -/
theorem mask_ref : (fun i => Cert.ReferenceIdeal.lit1 (Cert.ReferenceIdeal.S8x520.rowMajor i)) = Run.seqMask :=
  funext fun i => Ref.mask_table (Cert.ReferenceIdeal.S8x520.rowMajor i)

/-- From the same arguments the kernel and the reference leave the same values, masks and logits: the delayed prompt, the mask
    of the places that hold it, the logits each codebook's shift later, and the mask that is true everywhere. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Run.valuesOf (m (Run.prLoc c)), fun _ => Run.seqMask, fun c => Run.logitsOf (F := Ideal) (m (Run.liLoc c)),
    fun _ => Run.logMask, ?_, ?_⟩
  · exact (θ_run (Cert.KernelIdeal.defs (F := Ideal)) _ _).mono
      (fun r h c => ⟨(h.1 c).2.2.2.2.1, (h.1 c).2.2.1, (h.1 c).2.2.2.1, (h.1 c).2.2.2.2.2, (h.1 c).1, (h.1 c).2.1⟩)
      (Run.run_main (F := Ideal) m ρ)
  · refine (θ_run (Cert.ReferenceIdeal.defs (F := Ideal)) _ _).mono
      (fun r h c => ⟨(h c).1.trans ?_, (h c).2.1.trans mask_ref, (h c).2.2.1.trans ?_, (h c).2.2.2.1.trans rfl,
        (h c).2.2.2.2.1, (h c).2.2.2.2.2⟩)
      (Cert.ReferenceIdeal.Value.run (F := Ideal) m' ρ')
    · exact (Ref.values_ref _).trans (congrArg Run.valuesOf (hagree c).1)
    · exact (Ref.logits_ref _).trans (congrArg (Run.logitsOf (F := Ideal)) (hagree c).2)

end Cert.Proof

end
-- ==== Proof.lean ====
/-
  The claim, assembled: the witnesses of the programs' facts and the proofs of its parts.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Equation

@[expose] public section

noncomputable section

namespace Cert.Proof

/-- The claim. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
